-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x32 : Shape := ⟨2, ![1024, 32]⟩
abbrev S1024x1024 : Shape := ⟨2, ![1024, 1024]⟩
abbrev S3 : Shape := ⟨1, ![3]⟩
abbrev S4x4 : Shape := ⟨2, ![4, 4]⟩
abbrev S4x3 : Shape := ⟨2, ![4, 3]⟩
abbrev S_ : Shape := ⟨0, ![]⟩
abbrev S1 : Shape := ⟨1, ![1]⟩
abbrev S1x1 : Shape := ⟨2, ![1, 1]⟩
abbrev S256x1024 : Shape := ⟨2, ![256, 1024]⟩
abbrev S256x32 : Shape := ⟨2, ![256, 32]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .bf16⟩
  | .hbm, ⟨1, _⟩ => ⟨S1024x32, .bf16⟩
  | .hbm, ⟨2, _⟩ => ⟨S1024x32, .f32⟩
  | .local _ .vmem, ⟨0, _⟩ => ⟨S32x1024, .bf16⟩
  | .local _ .vmem, ⟨1, _⟩ => ⟨S1024x32, .bf16⟩
  | .local _ .vmem, ⟨2, _⟩ => ⟨S1024x32, .f32⟩
  | .local _ .vmem, ⟨3, _⟩ => ⟨S1024x1024, .bf16⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_37 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_36 : BitVec 32 := 1#32
  let v50 : BitVec 32 := Scalar.muli v20 c1_i32_36
  let v51 : BitVec 32 := Scalar.addi c0_i32_37 v50
  v51.toNat
def k0_dev2 (d0 : Dev nD) : Nat :=
  let c0_i32_40 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_39 : BitVec 32 := 1#32
  let v52 : BitVec 32 := Scalar.muli v36 c1_i32_39
  let v53 : BitVec 32 := Scalar.addi c0_i32_40 v52
  v53.toNat
def k0_dev3 (d0 : Dev nD) : Nat :=
  let c0_i32_43 : BitVec 32 := 0#32
  let c8_i32_28 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_26 : BitVec 32 := 1#32
  let v38 : BitVec 32 := Scalar.addi v3 c1_i32_26
  let c4_i32_27 : BitVec 32 := 4#32
  let v39 : BitVec 32 := Scalar.remsi v38 c4_i32_27
  let v40 : BitVec 32 := Scalar.muli c8_i32_28 v39
  let c8_i32_0 : BitVec 32 := 8#32
  let v4 : BitVec 32 := Scalar.remsi v2 c8_i32_0
  let v41 : BitVec 32 := Scalar.addi v40 v4
  let c1_i32_42 : BitVec 32 := 1#32
  let v54 : BitVec 32 := Scalar.muli v41 c1_i32_42
  let v55 : BitVec 32 := Scalar.addi c0_i32_43 v54
  v55.toNat
def k0_dev4 (d0 : Dev nD) : Nat :=
  let c0_i32_46 : BitVec 32 := 0#32
  let c8_i32_31 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_29 : BitVec 32 := 2#32
  let v42 : BitVec 32 := Scalar.addi v3 c2_i32_29
  let c4_i32_30 : BitVec 32 := 4#32
  let v43 : BitVec 32 := Scalar.remsi v42 c4_i32_30
  let v44 : BitVec 32 := Scalar.muli c8_i32_31 v43
  let c8_i32_0 : BitVec 32 := 8#32
  let v4 : BitVec 32 := Scalar.remsi v2 c8_i32_0
  let v45 : BitVec 32 := Scalar.addi v44 v4
  let c1_i32_45 : BitVec 32 := 1#32
  let v56 : BitVec 32 := Scalar.muli v45 c1_i32_45
  let v57 : BitVec 32 := Scalar.addi c0_i32_46 v56
  v57.toNat
def k0_dev5 (d0 : Dev nD) : Nat :=
  let c0_i32_49 : BitVec 32 := 0#32
  let c8_i32_34 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_32 : BitVec 32 := 3#32
  let v46 : BitVec 32 := Scalar.addi v3 c3_i32_32
  let c4_i32_33 : BitVec 32 := 4#32
  let v47 : BitVec 32 := Scalar.remsi v46 c4_i32_33
  let v48 : BitVec 32 := Scalar.muli c8_i32_34 v47
  let c8_i32_0 : BitVec 32 := 8#32
  let v4 : BitVec 32 := Scalar.remsi v2 c8_i32_0
  let v49 : BitVec 32 := Scalar.addi v48 v4
  let c1_i32_48 : BitVec 32 := 1#32
  let v58 : BitVec 32 := Scalar.muli v49 c1_i32_48
  let v59 : BitVec 32 := Scalar.addi c0_i32_49 v58
  v59.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_52 : BitVec 32 := 32#32
  let v62 : BitVec 32 := Scalar.muli v2 c32_i32_52
  let v63 : Index := Scalar.indexCast v62
  let c0_53 : Index := 0#32
  ![v63.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_58 : BitVec 32 := 32#32
  let v72 : BitVec 32 := Scalar.muli v2 c32_i32_58
  let c0_i32_63 : BitVec 32 := 0#32
  ![v72.toNat, 0]
def k0_dev6 (d0 : Dev nD) : Nat :=
  let c0_i32_62 : BitVec 32 := 0#32
  let c8_i32_56 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_54 : BitVec 32 := 1#32
  let v67 : BitVec 32 := Scalar.addi v3 c1_i32_54
  let c4_i32_55 : BitVec 32 := 4#32
  let v68 : BitVec 32 := Scalar.remsi v67 c4_i32_55
  let v69 : BitVec 32 := Scalar.muli c8_i32_56 v68
  let c8_i32_0 : BitVec 32 := 8#32
  let v4 : BitVec 32 := Scalar.remsi v2 c8_i32_0
  let v70 : BitVec 32 := Scalar.addi v69 v4
  let c1_i32_61 : BitVec 32 := 1#32
  let v73 : BitVec 32 := Scalar.muli v70 c1_i32_61
  let v74 : BitVec 32 := Scalar.addi c0_i32_62 v73
  v74.toNat
def k0_dev7 (d0 : Dev nD) : Nat :=
  let c0_i32_73 : BitVec 32 := 0#32
  let c8_i32_67 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c2_i32_65 : BitVec 32 := 2#32
  let v81 : BitVec 32 := Scalar.addi v3 c2_i32_65
  let c4_i32_66 : BitVec 32 := 4#32
  let v82 : BitVec 32 := Scalar.remsi v81 c4_i32_66
  let v83 : BitVec 32 := Scalar.muli c8_i32_67 v82
  let c8_i32_0 : BitVec 32 := 8#32
  let v4 : BitVec 32 := Scalar.remsi v2 c8_i32_0
  let v84 : BitVec 32 := Scalar.addi v83 v4
  let c1_i32_72 : BitVec 32 := 1#32
  let v87 : BitVec 32 := Scalar.muli v84 c1_i32_72
  let v88 : BitVec 32 := Scalar.addi c0_i32_73 v87
  v88.toNat
def k0_dev8 (d0 : Dev nD) : Nat :=
  let c0_i32_84 : BitVec 32 := 0#32
  let c8_i32_78 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c3_i32_76 : BitVec 32 := 3#32
  let v95 : BitVec 32 := Scalar.addi v3 c3_i32_76
  let c4_i32_77 : BitVec 32 := 4#32
  let v96 : BitVec 32 := Scalar.remsi v95 c4_i32_77
  let v97 : BitVec 32 := Scalar.muli c8_i32_78 v96
  let c8_i32_0 : BitVec 32 := 8#32
  let v4 : BitVec 32 := Scalar.remsi v2 c8_i32_0
  let v98 : BitVec 32 := Scalar.addi v97 v4
  let c1_i32_83 : BitVec 32 := 1#32
  let v101 : BitVec 32 := Scalar.muli v98 c1_i32_83
  let v102 : BitVec 32 := Scalar.addi c0_i32_84 v101
  v102.toNat
def k0_off3 (d0 : Dev nD) (c0_i32_87 : BitVec 32) : Fin 2 → Nat :=
  let c8_i32_174 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v109 : BitVec 32 := Scalar.subi v3 c0_i32_87
  let c4_i32_88 : BitVec 32 := 4#32
  let v110 : BitVec 32 := Scalar.addi v109 c4_i32_88
  let c4_i32_89 : BitVec 32 := 4#32
  let v111 : BitVec 32 := Scalar.remsi v110 c4_i32_89
  let v191 : BitVec 32 := Scalar.muli c8_i32_174 v111
  let c8_i32_0 : BitVec 32 := 8#32
  let v4 : BitVec 32 := Scalar.remsi v2 c8_i32_0
  let v192 : BitVec 32 := Scalar.addi v191 v4
  let c32_i32_175 : BitVec 32 := 32#32
  let v193 : BitVec 32 := Scalar.muli v192 c32_i32_175
  let c0_i32_182 : BitVec 32 := 0#32
  ![v193.toNat, 0]
def k0_dev9 (d0 : Dev nD) : Nat :=
  let c0_i32_181 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_180 : BitVec 32 := 1#32
  let v194 : BitVec 32 := Scalar.muli v20 c1_i32_180
  let v195 : BitVec 32 := Scalar.addi c0_i32_181 v194
  v195.toNat
def k0_dev10 (d0 : Dev nD) : Nat :=
  let c0_i32_191 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_190 : BitVec 32 := 1#32
  let v205 : BitVec 32 := Scalar.muli v36 c1_i32_190
  let v206 : BitVec 32 := Scalar.addi c0_i32_191 v205
  v206.toNat
def k0_dev11 (d0 : Dev nD) : Nat :=
  let c0_i32_207 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_206 : BitVec 32 := 1#32
  let v222 : BitVec 32 := Scalar.muli v20 c1_i32_206
  let v223 : BitVec 32 := Scalar.addi c0_i32_207 v222
  v223.toNat
def k0_dev12 (d0 : Dev nD) : Nat :=
  let c0_i32_217 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_216 : BitVec 32 := 1#32
  let v233 : BitVec 32 := Scalar.muli v36 c1_i32_216
  let v234 : BitVec 32 := Scalar.addi c0_i32_217 v233
  v234.toNat
def k0_dev13 (d0 : Dev nD) : Nat :=
  let c0_i32_233 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_232 : BitVec 32 := 1#32
  let v250 : BitVec 32 := Scalar.muli v20 c1_i32_232
  let v251 : BitVec 32 := Scalar.addi c0_i32_233 v250
  v251.toNat
def k0_dev14 (d0 : Dev nD) : Nat :=
  let c0_i32_243 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_242 : BitVec 32 := 1#32
  let v261 : BitVec 32 := Scalar.muli v36 c1_i32_242
  let v262 : BitVec 32 := Scalar.addi c0_i32_243 v261
  v262.toNat
def k0_dev15 (d0 : Dev nD) : Nat :=
  let c0_i32_259 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_258 : BitVec 32 := 1#32
  let v278 : BitVec 32 := Scalar.muli v20 c1_i32_258
  let v279 : BitVec 32 := Scalar.addi c0_i32_259 v278
  v279.toNat
def k0_dev16 (d0 : Dev nD) : Nat :=
  let c0_i32_269 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_268 : BitVec 32 := 1#32
  let v289 : BitVec 32 := Scalar.muli v36 c1_i32_268
  let v290 : BitVec 32 := Scalar.addi c0_i32_269 v289
  v290.toNat
def k0_off4 (d0 : Dev nD) (c0_i32_87 : BitVec 32) (c3_i32_113 : BitVec 32) (c0_i32_112 : BitVec 32) (c1_i32_111 : BitVec 32) (c4_i32_110 : BitVec 32) (c7_i32_109 : BitVec 32) (c2_i32_108 : BitVec 32) (c5_i32_106 : BitVec 32) (c6_i32_107 : BitVec 32) : Fin 2 → Nat :=
  let c8_i32_280 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v109 : BitVec 32 := Scalar.subi v3 c0_i32_87
  let c4_i32_88 : BitVec 32 := 4#32
  let v110 : BitVec 32 := Scalar.addi v109 c4_i32_88
  let c4_i32_89 : BitVec 32 := 4#32
  let v111 : BitVec 32 := Scalar.remsi v110 c4_i32_89
  let v303 : BitVec 32 := Scalar.muli c8_i32_280 v111
  let c8_i32_0 : BitVec 32 := 8#32
  let v4 : BitVec 32 := Scalar.remsi v2 c8_i32_0
  let c0_i32_99 : BitVec 32 := 0#32
  let v121 : BitVec 1 := Scalar.cmpi .eq v4 c0_i32_99
  let c1_i32_100 : BitVec 32 := 1#32
  let v122 : BitVec 1 := Scalar.cmpi .eq v4 c1_i32_100
  let c2_i32_101 : BitVec 32 := 2#32
  let v123 : BitVec 1 := Scalar.cmpi .eq v4 c2_i32_101
  let c3_i32_102 : BitVec 32 := 3#32
  let v124 : BitVec 1 := Scalar.cmpi .eq v4 c3_i32_102
  let c4_i32_103 : BitVec 32 := 4#32
  let v125 : BitVec 1 := Scalar.cmpi .eq v4 c4_i32_103
  let c5_i32_104 : BitVec 32 := 5#32
  let v126 : BitVec 1 := Scalar.cmpi .eq v4 c5_i32_104
  let c6_i32_105 : BitVec 32 := 6#32
  let v127 : BitVec 1 := Scalar.cmpi .eq v4 c6_i32_105
  let v128 : BitVec 32 := Scalar.select v127 c5_i32_106 c6_i32_107
  let v129 : BitVec 32 := Scalar.select v126 c2_i32_108 v128
  let v130 : BitVec 32 := Scalar.select v125 c7_i32_109 v129
  let v131 : BitVec 32 := Scalar.select v124 c4_i32_110 v130
  let v132 : BitVec 32 := Scalar.select v123 c1_i32_111 v131
  let v133 : BitVec 32 := Scalar.select v122 c0_i32_112 v132
  let v134 : BitVec 32 := Scalar.select v121 c3_i32_113 v133
  let v304 : BitVec 32 := Scalar.addi v303 v134
  let c32_i32_281 : BitVec 32 := 32#32
  let v305 : BitVec 32 := Scalar.muli v304 c32_i32_281
  let c0_i32_288 : BitVec 32 := 0#32
  ![v305.toNat, 0]
def k0_off4_at (r : Fin 8) : BitVec 32 × BitVec 32 × BitVec 32 × BitVec 32 × BitVec 32 × BitVec 32 × BitVec 32 × BitVec 32 × BitVec 32 :=
  if r.val < 4 then
    if r.val < 2 then
      if r.val < 1 then
        (0#32, 3#32, 0#32, 1#32, 4#32, 7#32, 2#32, 5#32, 6#32)
      else
        (0#32, 1#32, 2#32, 5#32, 0#32, 3#32, 6#32, 7#32, 4#32)
    else
      if r.val < 3 then
        (1#32, 3#32, 0#32, 1#32, 4#32, 7#32, 2#32, 5#32, 6#32)
      else
        (1#32, 1#32, 2#32, 5#32, 0#32, 3#32, 6#32, 7#32, 4#32)
  else
    if r.val < 6 then
      if r.val < 5 then
        (2#32, 3#32, 0#32, 1#32, 4#32, 7#32, 2#32, 5#32, 6#32)
      else
        (2#32, 1#32, 2#32, 5#32, 0#32, 3#32, 6#32, 7#32, 4#32)
    else
      if r.val < 7 then
        (3#32, 3#32, 0#32, 1#32, 4#32, 7#32, 2#32, 5#32, 6#32)
      else
        (3#32, 1#32, 2#32, 5#32, 0#32, 3#32, 6#32, 7#32, 4#32)
def k0_dev17 (d0 : Dev nD) : Nat :=
  let c0_i32_287 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_286 : BitVec 32 := 1#32
  let v306 : BitVec 32 := Scalar.muli v20 c1_i32_286
  let v307 : BitVec 32 := Scalar.addi c0_i32_287 v306
  v307.toNat
def k0_dev18 (d0 : Dev nD) : Nat :=
  let c0_i32_305 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_304 : BitVec 32 := 1#32
  let v323 : BitVec 32 := Scalar.muli v36 c1_i32_304
  let v324 : BitVec 32 := Scalar.addi c0_i32_305 v323
  v324.toNat
def k0_dev19 (d0 : Dev nD) : Nat :=
  let c0_i32_323 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_322 : BitVec 32 := 1#32
  let v340 : BitVec 32 := Scalar.muli v20 c1_i32_322
  let v341 : BitVec 32 := Scalar.addi c0_i32_323 v340
  v341.toNat
def k0_dev20 (d0 : Dev nD) : Nat :=
  let c0_i32_341 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_340 : BitVec 32 := 1#32
  let v357 : BitVec 32 := Scalar.muli v36 c1_i32_340
  let v358 : BitVec 32 := Scalar.addi c0_i32_341 v357
  v358.toNat
def k0_dev21 (d0 : Dev nD) : Nat :=
  let c0_i32_359 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_358 : BitVec 32 := 1#32
  let v374 : BitVec 32 := Scalar.muli v20 c1_i32_358
  let v375 : BitVec 32 := Scalar.addi c0_i32_359 v374
  v375.toNat
def k0_dev22 (d0 : Dev nD) : Nat :=
  let c0_i32_377 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_376 : BitVec 32 := 1#32
  let v391 : BitVec 32 := Scalar.muli v36 c1_i32_376
  let v392 : BitVec 32 := Scalar.addi c0_i32_377 v391
  v392.toNat
def k0_dev23 (d0 : Dev nD) : Nat :=
  let c0_i32_395 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_394 : BitVec 32 := 1#32
  let v408 : BitVec 32 := Scalar.muli v20 c1_i32_394
  let v409 : BitVec 32 := Scalar.addi c0_i32_395 v408
  v409.toNat
def k0_dev24 (d0 : Dev nD) : Nat :=
  let c0_i32_413 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_412 : BitVec 32 := 1#32
  let v425 : BitVec 32 := Scalar.muli v36 c1_i32_412
  let v426 : BitVec 32 := Scalar.addi c0_i32_413 v425
  v426.toNat
def k0_off5 (d0 : Dev nD) (c0_i32_87 : BitVec 32) (c3_i32_113 : BitVec 32) (c0_i32_112 : BitVec 32) (c1_i32_111 : BitVec 32) (c4_i32_110 : BitVec 32) (c7_i32_109 : BitVec 32) (c2_i32_108 : BitVec 32) (c5_i32_106 : BitVec 32) (c6_i32_107 : BitVec 32) (c3_i32_143 : BitVec 32) (c0_i32_142 : BitVec 32) (c1_i32_141 : BitVec 32) (c4_i32_140 : BitVec 32) (c7_i32_139 : BitVec 32) (c2_i32_138 : BitVec 32) (c5_i32_136 : BitVec 32) (c6_i32_137 : BitVec 32) : Fin 2 → Nat :=
  let c8_i32_424 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v109 : BitVec 32 := Scalar.subi v3 c0_i32_87
  let c4_i32_88 : BitVec 32 := 4#32
  let v110 : BitVec 32 := Scalar.addi v109 c4_i32_88
  let c4_i32_89 : BitVec 32 := 4#32
  let v111 : BitVec 32 := Scalar.remsi v110 c4_i32_89
  let v439 : BitVec 32 := Scalar.muli c8_i32_424 v111
  let c8_i32_0 : BitVec 32 := 8#32
  let v4 : BitVec 32 := Scalar.remsi v2 c8_i32_0
  let c0_i32_99 : BitVec 32 := 0#32
  let v121 : BitVec 1 := Scalar.cmpi .eq v4 c0_i32_99
  let c1_i32_100 : BitVec 32 := 1#32
  let v122 : BitVec 1 := Scalar.cmpi .eq v4 c1_i32_100
  let c2_i32_101 : BitVec 32 := 2#32
  let v123 : BitVec 1 := Scalar.cmpi .eq v4 c2_i32_101
  let c3_i32_102 : BitVec 32 := 3#32
  let v124 : BitVec 1 := Scalar.cmpi .eq v4 c3_i32_102
  let c4_i32_103 : BitVec 32 := 4#32
  let v125 : BitVec 1 := Scalar.cmpi .eq v4 c4_i32_103
  let c5_i32_104 : BitVec 32 := 5#32
  let v126 : BitVec 1 := Scalar.cmpi .eq v4 c5_i32_104
  let c6_i32_105 : BitVec 32 := 6#32
  let v127 : BitVec 1 := Scalar.cmpi .eq v4 c6_i32_105
  let v128 : BitVec 32 := Scalar.select v127 c5_i32_106 c6_i32_107
  let v129 : BitVec 32 := Scalar.select v126 c2_i32_108 v128
  let v130 : BitVec 32 := Scalar.select v125 c7_i32_109 v129
  let v131 : BitVec 32 := Scalar.select v124 c4_i32_110 v130
  let v132 : BitVec 32 := Scalar.select v123 c1_i32_111 v131
  let v133 : BitVec 32 := Scalar.select v122 c0_i32_112 v132
  let v134 : BitVec 32 := Scalar.select v121 c3_i32_113 v133
  let c0_i32_129 : BitVec 32 := 0#32
  let v149 : BitVec 1 := Scalar.cmpi .eq v134 c0_i32_129
  let c1_i32_130 : BitVec 32 := 1#32
  let v150 : BitVec 1 := Scalar.cmpi .eq v134 c1_i32_130
  let c2_i32_131 : BitVec 32 := 2#32
  let v151 : BitVec 1 := Scalar.cmpi .eq v134 c2_i32_131
  let c3_i32_132 : BitVec 32 := 3#32
  let v152 : BitVec 1 := Scalar.cmpi .eq v134 c3_i32_132
  let c4_i32_133 : BitVec 32 := 4#32
  let v153 : BitVec 1 := Scalar.cmpi .eq v134 c4_i32_133
  let c5_i32_134 : BitVec 32 := 5#32
  let v154 : BitVec 1 := Scalar.cmpi .eq v134 c5_i32_134
  let c6_i32_135 : BitVec 32 := 6#32
  let v155 : BitVec 1 := Scalar.cmpi .eq v134 c6_i32_135
  let v156 : BitVec 32 := Scalar.select v155 c5_i32_136 c6_i32_137
  let v157 : BitVec 32 := Scalar.select v154 c2_i32_138 v156
  let v158 : BitVec 32 := Scalar.select v153 c7_i32_139 v157
  let v159 : BitVec 32 := Scalar.select v152 c4_i32_140 v158
  let v160 : BitVec 32 := Scalar.select v151 c1_i32_141 v159
  let v161 : BitVec 32 := Scalar.select v150 c0_i32_142 v160
  let v162 : BitVec 32 := Scalar.select v149 c3_i32_143 v161
  let v440 : BitVec 32 := Scalar.addi v439 v162
  let c32_i32_425 : BitVec 32 := 32#32
  let v441 : BitVec 32 := Scalar.muli v440 c32_i32_425
  let c0_i32_432 : BitVec 32 := 0#32
  ![v441.toNat, 0]
def k0_off5_at (r : Fin 8) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 4 then
    if r.val < 2 then
      if r.val < 1 then
        (0#32, 3#32, 0#32, 1#32, 4#32, 7#32, 2#32, 5#32, 6#32, 3#32, 0#32, 1#32, 4#32, 7#32, 2#32, 5#32, 6#32)
      else
        (0#32, 1#32, 2#32, 5#32, 0#32, 3#32, 6#32, 7#32, 4#32, 1#32, 2#32, 5#32, 0#32, 3#32, 6#32, 7#32, 4#32)
    else
      if r.val < 3 then
        (1#32, 3#32, 0#32, 1#32, 4#32, 7#32, 2#32, 5#32, 6#32, 3#32, 0#32, 1#32, 4#32, 7#32, 2#32, 5#32, 6#32)
      else
        (1#32, 1#32, 2#32, 5#32, 0#32, 3#32, 6#32, 7#32, 4#32, 1#32, 2#32, 5#32, 0#32, 3#32, 6#32, 7#32, 4#32)
  else
    if r.val < 6 then
      if r.val < 5 then
        (2#32, 3#32, 0#32, 1#32, 4#32, 7#32, 2#32, 5#32, 6#32, 3#32, 0#32, 1#32, 4#32, 7#32, 2#32, 5#32, 6#32)
      else
        (2#32, 1#32, 2#32, 5#32, 0#32, 3#32, 6#32, 7#32, 4#32, 1#32, 2#32, 5#32, 0#32, 3#32, 6#32, 7#32, 4#32)
    else
      if r.val < 7 then
        (3#32, 3#32, 0#32, 1#32, 4#32, 7#32, 2#32, 5#32, 6#32, 3#32, 0#32, 1#32, 4#32, 7#32, 2#32, 5#32, 6#32)
      else
        (3#32, 1#32, 2#32, 5#32, 0#32, 3#32, 6#32, 7#32, 4#32, 1#32, 2#32, 5#32, 0#32, 3#32, 6#32, 7#32, 4#32)
def k0_dev25 (d0 : Dev nD) : Nat :=
  let c0_i32_431 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_430 : BitVec 32 := 1#32
  let v442 : BitVec 32 := Scalar.muli v20 c1_i32_430
  let v443 : BitVec 32 := Scalar.addi c0_i32_431 v442
  v443.toNat
def k0_dev26 (d0 : Dev nD) : Nat :=
  let c0_i32_449 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_448 : BitVec 32 := 1#32
  let v459 : BitVec 32 := Scalar.muli v36 c1_i32_448
  let v460 : BitVec 32 := Scalar.addi c0_i32_449 v459
  v460.toNat
def k0_dev27 (d0 : Dev nD) : Nat :=
  let c0_i32_467 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_466 : BitVec 32 := 1#32
  let v476 : BitVec 32 := Scalar.muli v20 c1_i32_466
  let v477 : BitVec 32 := Scalar.addi c0_i32_467 v476
  v477.toNat
def k0_dev28 (d0 : Dev nD) : Nat :=
  let c0_i32_485 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_484 : BitVec 32 := 1#32
  let v493 : BitVec 32 := Scalar.muli v36 c1_i32_484
  let v494 : BitVec 32 := Scalar.addi c0_i32_485 v493
  v494.toNat
def k0_dev29 (d0 : Dev nD) : Nat :=
  let c0_i32_503 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_502 : BitVec 32 := 1#32
  let v510 : BitVec 32 := Scalar.muli v20 c1_i32_502
  let v511 : BitVec 32 := Scalar.addi c0_i32_503 v510
  v511.toNat
def k0_dev30 (d0 : Dev nD) : Nat :=
  let c0_i32_521 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_520 : BitVec 32 := 1#32
  let v527 : BitVec 32 := Scalar.muli v36 c1_i32_520
  let v528 : BitVec 32 := Scalar.addi c0_i32_521 v527
  v528.toNat
def k0_dev31 (d0 : Dev nD) : Nat :=
  let c0_i32_539 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_538 : BitVec 32 := 1#32
  let v544 : BitVec 32 := Scalar.muli v20 c1_i32_538
  let v545 : BitVec 32 := Scalar.addi c0_i32_539 v544
  v545.toNat
def k0_dev32 (d0 : Dev nD) : Nat :=
  let c0_i32_557 : BitVec 32 := 0#32
  let c8_i32_10 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v21 : BitVec 32 := Scalar.muli c8_i32_10 v3
  let c8_i32_0 : BitVec 32 := 8#32
  let v4 : BitVec 32 := Scalar.remsi v2 c8_i32_0
  let c0_i32_11 : BitVec 32 := 0#32
  let v22 : BitVec 1 := Scalar.cmpi .eq v4 c0_i32_11
  let c3_i32_25 : BitVec 32 := 3#32
  let c1_i32_12 : BitVec 32 := 1#32
  let v23 : BitVec 1 := Scalar.cmpi .eq v4 c1_i32_12
  let c0_i32_24 : BitVec 32 := 0#32
  let c2_i32_13 : BitVec 32 := 2#32
  let v24 : BitVec 1 := Scalar.cmpi .eq v4 c2_i32_13
  let c1_i32_23 : BitVec 32 := 1#32
  let c3_i32_14 : BitVec 32 := 3#32
  let v25 : BitVec 1 := Scalar.cmpi .eq v4 c3_i32_14
  let c4_i32_22 : BitVec 32 := 4#32
  let c4_i32_15 : BitVec 32 := 4#32
  let v26 : BitVec 1 := Scalar.cmpi .eq v4 c4_i32_15
  let c7_i32_21 : BitVec 32 := 7#32
  let c5_i32_16 : BitVec 32 := 5#32
  let v27 : BitVec 1 := Scalar.cmpi .eq v4 c5_i32_16
  let c2_i32_20 : BitVec 32 := 2#32
  let c6_i32_17 : BitVec 32 := 6#32
  let v28 : BitVec 1 := Scalar.cmpi .eq v4 c6_i32_17
  let c5_i32_18 : BitVec 32 := 5#32
  let c6_i32_19 : BitVec 32 := 6#32
  let v29 : BitVec 32 := Scalar.select v28 c5_i32_18 c6_i32_19
  let v30 : BitVec 32 := Scalar.select v27 c2_i32_20 v29
  let v31 : BitVec 32 := Scalar.select v26 c7_i32_21 v30
  let v32 : BitVec 32 := Scalar.select v25 c4_i32_22 v31
  let v33 : BitVec 32 := Scalar.select v24 c1_i32_23 v32
  let v34 : BitVec 32 := Scalar.select v23 c0_i32_24 v33
  let v35 : BitVec 32 := Scalar.select v22 c3_i32_25 v34
  let v36 : BitVec 32 := Scalar.addi v21 v35
  let c1_i32_556 : BitVec 32 := 1#32
  let v561 : BitVec 32 := Scalar.muli v36 c1_i32_556
  let v562 : BitVec 32 := Scalar.addi c0_i32_557 v561
  v562.toNat
def k0_off6 (d0 : Dev nD) (c0_i32_87 : BitVec 32) : Fin 2 → Nat :=
  let c8_i32_568 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v109 : BitVec 32 := Scalar.subi v3 c0_i32_87
  let c4_i32_88 : BitVec 32 := 4#32
  let v110 : BitVec 32 := Scalar.addi v109 c4_i32_88
  let c4_i32_89 : BitVec 32 := 4#32
  let v111 : BitVec 32 := Scalar.remsi v110 c4_i32_89
  let v575 : BitVec 32 := Scalar.muli c8_i32_568 v111
  let c8_i32_0 : BitVec 32 := 8#32
  let v4 : BitVec 32 := Scalar.remsi v2 c8_i32_0
  let c0_i32_99 : BitVec 32 := 0#32
  let v121 : BitVec 1 := Scalar.cmpi .eq v4 c0_i32_99
  let c3_i32_113 : BitVec 32 := 3#32
  let c1_i32_100 : BitVec 32 := 1#32
  let v122 : BitVec 1 := Scalar.cmpi .eq v4 c1_i32_100
  let c0_i32_112 : BitVec 32 := 0#32
  let c2_i32_101 : BitVec 32 := 2#32
  let v123 : BitVec 1 := Scalar.cmpi .eq v4 c2_i32_101
  let c1_i32_111 : BitVec 32 := 1#32
  let c3_i32_102 : BitVec 32 := 3#32
  let v124 : BitVec 1 := Scalar.cmpi .eq v4 c3_i32_102
  let c4_i32_110 : BitVec 32 := 4#32
  let c4_i32_103 : BitVec 32 := 4#32
  let v125 : BitVec 1 := Scalar.cmpi .eq v4 c4_i32_103
  let c7_i32_109 : BitVec 32 := 7#32
  let c5_i32_104 : BitVec 32 := 5#32
  let v126 : BitVec 1 := Scalar.cmpi .eq v4 c5_i32_104
  let c2_i32_108 : BitVec 32 := 2#32
  let c6_i32_105 : BitVec 32 := 6#32
  let v127 : BitVec 1 := Scalar.cmpi .eq v4 c6_i32_105
  let c5_i32_106 : BitVec 32 := 5#32
  let c6_i32_107 : BitVec 32 := 6#32
  let v128 : BitVec 32 := Scalar.select v127 c5_i32_106 c6_i32_107
  let v129 : BitVec 32 := Scalar.select v126 c2_i32_108 v128
  let v130 : BitVec 32 := Scalar.select v125 c7_i32_109 v129
  let v131 : BitVec 32 := Scalar.select v124 c4_i32_110 v130
  let v132 : BitVec 32 := Scalar.select v123 c1_i32_111 v131
  let v133 : BitVec 32 := Scalar.select v122 c0_i32_112 v132
  let v134 : BitVec 32 := Scalar.select v121 c3_i32_113 v133
  let c0_i32_129 : BitVec 32 := 0#32
  let v149 : BitVec 1 := Scalar.cmpi .eq v134 c0_i32_129
  let c3_i32_143 : BitVec 32 := 3#32
  let c1_i32_130 : BitVec 32 := 1#32
  let v150 : BitVec 1 := Scalar.cmpi .eq v134 c1_i32_130
  let c0_i32_142 : BitVec 32 := 0#32
  let c2_i32_131 : BitVec 32 := 2#32
  let v151 : BitVec 1 := Scalar.cmpi .eq v134 c2_i32_131
  let c1_i32_141 : BitVec 32 := 1#32
  let c3_i32_132 : BitVec 32 := 3#32
  let v152 : BitVec 1 := Scalar.cmpi .eq v134 c3_i32_132
  let c4_i32_140 : BitVec 32 := 4#32
  let c4_i32_133 : BitVec 32 := 4#32
  let v153 : BitVec 1 := Scalar.cmpi .eq v134 c4_i32_133
  let c7_i32_139 : BitVec 32 := 7#32
  let c5_i32_134 : BitVec 32 := 5#32
  let v154 : BitVec 1 := Scalar.cmpi .eq v134 c5_i32_134
  let c2_i32_138 : BitVec 32 := 2#32
  let c6_i32_135 : BitVec 32 := 6#32
  let v155 : BitVec 1 := Scalar.cmpi .eq v134 c6_i32_135
  let c5_i32_136 : BitVec 32 := 5#32
  let c6_i32_137 : BitVec 32 := 6#32
  let v156 : BitVec 32 := Scalar.select v155 c5_i32_136 c6_i32_137
  let v157 : BitVec 32 := Scalar.select v154 c2_i32_138 v156
  let v158 : BitVec 32 := Scalar.select v153 c7_i32_139 v157
  let v159 : BitVec 32 := Scalar.select v152 c4_i32_140 v158
  let v160 : BitVec 32 := Scalar.select v151 c1_i32_141 v159
  let v161 : BitVec 32 := Scalar.select v150 c0_i32_142 v160
  let v162 : BitVec 32 := Scalar.select v149 c3_i32_143 v161
  let c0_i32_159 : BitVec 32 := 0#32
  let v177 : BitVec 1 := Scalar.cmpi .eq v162 c0_i32_159
  let c3_i32_173 : BitVec 32 := 3#32
  let c1_i32_160 : BitVec 32 := 1#32
  let v178 : BitVec 1 := Scalar.cmpi .eq v162 c1_i32_160
  let c0_i32_172 : BitVec 32 := 0#32
  let c2_i32_161 : BitVec 32 := 2#32
  let v179 : BitVec 1 := Scalar.cmpi .eq v162 c2_i32_161
  let c1_i32_171 : BitVec 32 := 1#32
  let c3_i32_162 : BitVec 32 := 3#32
  let v180 : BitVec 1 := Scalar.cmpi .eq v162 c3_i32_162
  let c4_i32_170 : BitVec 32 := 4#32
  let c4_i32_163 : BitVec 32 := 4#32
  let v181 : BitVec 1 := Scalar.cmpi .eq v162 c4_i32_163
  let c7_i32_169 : BitVec 32 := 7#32
  let c5_i32_164 : BitVec 32 := 5#32
  let v182 : BitVec 1 := Scalar.cmpi .eq v162 c5_i32_164
  let c2_i32_168 : BitVec 32 := 2#32
  let c6_i32_165 : BitVec 32 := 6#32
  let v183 : BitVec 1 := Scalar.cmpi .eq v162 c6_i32_165
  let c5_i32_166 : BitVec 32 := 5#32
  let c6_i32_167 : BitVec 32 := 6#32
  let v184 : BitVec 32 := Scalar.select v183 c5_i32_166 c6_i32_167
  let v185 : BitVec 32 := Scalar.select v182 c2_i32_168 v184
  let v186 : BitVec 32 := Scalar.select v181 c7_i32_169 v185
  let v187 : BitVec 32 := Scalar.select v180 c4_i32_170 v186
  let v188 : BitVec 32 := Scalar.select v179 c1_i32_171 v187
  let v189 : BitVec 32 := Scalar.select v178 c0_i32_172 v188
  let v190 : BitVec 32 := Scalar.select v177 c3_i32_173 v189
  let v576 : BitVec 32 := Scalar.addi v575 v190
  let c32_i32_569 : BitVec 32 := 32#32
  let v577 : BitVec 32 := Scalar.muli v576 c32_i32_569
  let c0_i32_576 : BitVec 32 := 0#32
  ![v577.toNat, 0]
def k0_dev33 (d0 : Dev nD) : Nat :=
  let c0_i32_575 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_574 : BitVec 32 := 1#32
  let v578 : BitVec 32 := Scalar.muli v20 c1_i32_574
  let v579 : BitVec 32 := Scalar.addi c0_i32_575 v578
  v579.toNat
def k0_dev34 (d0 : Dev nD) : Nat :=
  let c0_i32_593 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_592 : BitVec 32 := 1#32
  let v595 : BitVec 32 := Scalar.muli v20 c1_i32_592
  let v596 : BitVec 32 := Scalar.addi c0_i32_593 v595
  v596.toNat
def k0_dev35 (d0 : Dev nD) : Nat :=
  let c0_i32_611 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_610 : BitVec 32 := 1#32
  let v612 : BitVec 32 := Scalar.muli v20 c1_i32_610
  let v613 : BitVec 32 := Scalar.addi c0_i32_611 v612
  v613.toNat
def k0_dev36 (d0 : Dev nD) : Nat :=
  let c0_i32_629 : BitVec 32 := 0#32
  let c8_i32_1 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v5 : BitVec 32 := Scalar.muli c8_i32_1 v3
  let c8_i32_0 : BitVec 32 := 8#32
  let v4 : BitVec 32 := Scalar.remsi v2 c8_i32_0
  let c0_i32 : BitVec 32 := 0#32
  let v6 : BitVec 1 := Scalar.cmpi .eq v4 c0_i32
  let c1_i32_9 : BitVec 32 := 1#32
  let c1_i32_2 : BitVec 32 := 1#32
  let v7 : BitVec 1 := Scalar.cmpi .eq v4 c1_i32_2
  let c2_i32_8 : BitVec 32 := 2#32
  let c2_i32 : BitVec 32 := 2#32
  let v8 : BitVec 1 := Scalar.cmpi .eq v4 c2_i32
  let c5_i32_7 : BitVec 32 := 5#32
  let c3_i32 : BitVec 32 := 3#32
  let v9 : BitVec 1 := Scalar.cmpi .eq v4 c3_i32
  let c0_i32_6 : BitVec 32 := 0#32
  let c4_i32 : BitVec 32 := 4#32
  let v10 : BitVec 1 := Scalar.cmpi .eq v4 c4_i32
  let c3_i32_5 : BitVec 32 := 3#32
  let c5_i32 : BitVec 32 := 5#32
  let v11 : BitVec 1 := Scalar.cmpi .eq v4 c5_i32
  let c6_i32_4 : BitVec 32 := 6#32
  let c6_i32 : BitVec 32 := 6#32
  let v12 : BitVec 1 := Scalar.cmpi .eq v4 c6_i32
  let c7_i32 : BitVec 32 := 7#32
  let c4_i32_3 : BitVec 32 := 4#32
  let v13 : BitVec 32 := Scalar.select v12 c7_i32 c4_i32_3
  let v14 : BitVec 32 := Scalar.select v11 c6_i32_4 v13
  let v15 : BitVec 32 := Scalar.select v10 c3_i32_5 v14
  let v16 : BitVec 32 := Scalar.select v9 c0_i32_6 v15
  let v17 : BitVec 32 := Scalar.select v8 c5_i32_7 v16
  let v18 : BitVec 32 := Scalar.select v7 c2_i32_8 v17
  let v19 : BitVec 32 := Scalar.select v6 c1_i32_9 v18
  let v20 : BitVec 32 := Scalar.addi v5 v19
  let c1_i32_628 : BitVec 32 := 1#32
  let v629 : BitVec 32 := Scalar.muli v20 c1_i32_628
  let v630 : BitVec 32 := Scalar.addi c0_i32_629 v629
  v630.toNat
def k0_off7 (d0 : Dev nD) (c0_i32_87 : BitVec 32) : Fin 2 → Nat :=
  let c8_i32_650 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v109 : BitVec 32 := Scalar.subi v3 c0_i32_87
  let c4_i32_88 : BitVec 32 := 4#32
  let v110 : BitVec 32 := Scalar.addi v109 c4_i32_88
  let c4_i32_89 : BitVec 32 := 4#32
  let v111 : BitVec 32 := Scalar.remsi v110 c4_i32_89
  let v651 : BitVec 32 := Scalar.muli c8_i32_650 v111
  let c32_i32_651 : BitVec 32 := 32#32
  let v652 : BitVec 32 := Scalar.muli v651 c32_i32_651
  let v653 : Index := Scalar.indexCast v652
  let c0_652 : Index := 0#32
  ![v653.toNat, 0]
def k0_off8 (d0 : Dev nD) (c0_i32_87 : BitVec 32) : Fin 2 → Nat :=
  let c8_i32_650 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v109 : BitVec 32 := Scalar.subi v3 c0_i32_87
  let c4_i32_88 : BitVec 32 := 4#32
  let v110 : BitVec 32 := Scalar.addi v109 c4_i32_88
  let c4_i32_89 : BitVec 32 := 4#32
  let v111 : BitVec 32 := Scalar.remsi v110 c4_i32_89
  let v651 : BitVec 32 := Scalar.muli c8_i32_650 v111
  let c32_i32_651 : BitVec 32 := 32#32
  let v652 : BitVec 32 := Scalar.muli v651 c32_i32_651
  let v658 : Index := Scalar.indexCast v652
  let c0_654 : Index := 0#32
  ![v658.toNat, 0]
abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Mesh.lean ====
/-
The mesh as the kernel walks it. Device `c` sits at layer `c / 8` and place `c % 8` of its layer; the eight
places of a layer form a ring 0 → 1 → 2 → 5 → 6 → 7 → 4 → 3 → 0. Each device issues 31 remote copies, numbered
here in the order it later waits for their departure:
  0, 1, 2          its own chunk to the same place of the next three layers,
  3 + 4 dz + t     a chunk of layer `z - dz` to the next place of the ring, step `t` of four,
  19 + 3 dz + t    a chunk of layer `z - dz` to the place before, step `t` of three.
Chunk `q` is the 32 rows of the gathered array that device `q` contributes.
-/
module

public import proofs.«01_k».proof.Proof.Gen.KernelIdeal

@[expose] public section

noncomputable section

namespace Cert.Gather

open Cert.KernelIdeal Cert.KernelIdeal.Gen
open Idealize.ShloMosaic

/-- The number of a remote copy. -/
abbrev T : Type := Fin 31

/-- The place after `p` on the ring of a layer. -/
def after (p : ℕ) : ℕ := if p = 0 then 1 else if p = 1 then 2 else if p = 2 then 5 else if p = 3 then 0 else if p = 4 then 3 else if p = 5 then 6 else if p = 6 then 7 else 4
/-- The place before `p`. -/
def prior (p : ℕ) : ℕ := if p = 0 then 3 else if p = 1 then 0 else if p = 2 then 1 else if p = 3 then 4 else if p = 4 then 7 else if p = 5 then 2 else if p = 6 then 5 else 6

/-- The device with a given number, taken modulo 32. -/
def devOf (n : ℕ) : Dev nD := ⟨n % 32, Nat.mod_lt _ (by decide)⟩

/-- Whom device `c` signals with its signal `s`: the next place, the place before, then the next three layers. -/
def hand (s : Fin 5) (c : Dev nD) : Dev nD :=
  if s.val = 0 then devOf (8 * (c.val / 8) + after (c.val % 8))
  else if s.val = 1 then devOf (8 * (c.val / 8) + prior (c.val % 8))
  else devOf (8 * ((c.val / 8 + (s.val - 1)) % 4) + c.val % 8)

/-- Who signals device `c` with signal `s`. -/
def back (s : Fin 5) (c : Dev nD) : Dev nD :=
  if s.val = 0 then devOf (8 * (c.val / 8) + prior (c.val % 8))
  else if s.val = 1 then devOf (8 * (c.val / 8) + after (c.val % 8))
  else devOf (8 * ((c.val / 8 + (5 - s.val)) % 4) + c.val % 8)

theorem back_hand : ∀ (s : Fin 5) (c : Dev nD), back s (hand s c) = c := by decide +kernel
theorem hand_back : ∀ (s : Fin 5) (c : Dev nD), hand s (back s c) = c := by decide +kernel

/-- Signal `s` as a permutation of the devices. -/
def handEquiv (s : Fin 5) : Dev nD ≃ Dev nD := ⟨hand s, back s, back_hand s, hand_back s⟩

/-- The signal by which the receiver of copy `j` hands its landing rows to the sender. -/
def grp (j : T) : Fin 5 := if j.val < 3 then ⟨4 - j.val, by omega⟩ else if j.val < 19 then 1 else 0

/-- The receiver of device `c`'s copy `j`; -/
def tgt (j : T) (c : Dev nD) : Dev nD := back (grp j) c
/-- the sender of the copy `j` that lands on device `c`. -/
def org (j : T) (c : Dev nD) : Dev nD := hand (grp j) c

/-- The layer and the step of a ring copy. -/
def layOf (j : T) : ℕ := if j.val < 19 then (j.val - 3) / 4 else (j.val - 19) / 3
def stepOf (j : T) : ℕ := if j.val < 19 then (j.val - 3) % 4 else (j.val - 19) % 3

/-- The chunk device `c` sends with copy `j`; -/
def chunk (j : T) (c : Dev nD) : Dev nD :=
  if j.val < 3 then c
  else if j.val < 19 then devOf (8 * ((c.val / 8 + 4 - layOf j) % 4) + prior^[stepOf j] (c.val % 8))
  else devOf (8 * ((c.val / 8 + 4 - layOf j) % 4) + after^[stepOf j] (c.val % 8))
/-- the chunk that lands on device `c` with copy `j`. -/
def arr (j : T) (c : Dev nD) : Dev nD := chunk j (org j c)

theorem org_tgt (j : T) (c : Dev nD) : org j (tgt j c) = c := hand_back _ _
theorem tgt_org (j : T) (c : Dev nD) : tgt j (org j c) = c := back_hand _ _
theorem arr_tgt (j : T) (c : Dev nD) : arr j (tgt j c) = chunk j c := by unfold arr; rw [org_tgt]

/-- The landing that brings the chunk copy `j` sends, if it is not the device's own. -/
def par (j : T) : Option T :=
  if j.val < 3 then none
  else if j.val < 19 then
    (if stepOf j = 0 then (if layOf j = 0 then none else some (Fin.ofNat 31 (layOf j - 1))) else some (Fin.ofNat 31 (j.val - 1)))
  else
    (if stepOf j = 0 then (if layOf j = 0 then none else some (Fin.ofNat 31 (layOf j - 1))) else some (Fin.ofNat 31 (j.val - 1)))

/-- The chunk a landing brings; the device's own when there is none. -/
def chunkOf (i : Option T) (c : Dev nD) : Dev nD := match i with
  | none => c
  | some i => arr i c

theorem chunkOf_par : ∀ (j : T) (c : Dev nD), chunkOf (par j) c = chunk j c := by decide +kernel

/-- The chunks of a device, its own and those that land, are distinct; -/
theorem chunkOf_injective : ∀ c : Dev nD, Function.Injective fun i : Option T => chunkOf i c := by
  have h : ∀ (c : Dev nD) (i i' : Option T), chunkOf i c = chunkOf i' c → i = i' := by decide +kernel
  exact fun c i i' => h c i i'
/-- and they are all the chunks. -/
theorem chunkOf_surjective : ∀ c : Dev nD, Function.Surjective fun i : Option T => chunkOf i c := by
  intro c q; revert c q; decide +kernel

/-- The copies that send the chunk of landing `i`. -/
def kids (i : Option T) : Finset T := Finset.univ.filter fun j => par j = i

/-- Copy `j`'s place among the copies sending the same chunk. -/
def ord (j : T) : ℕ :=
  if j.val < 3 then j.val
  else if stepOf j = 0 then
    (if layOf j = 0 then (if j.val < 19 then 3 else 4) else (if j.val < 19 then 0 else 1))
  else 0

/-- The level of copy `j`'s landing: a wait is allowed below every level still owed. -/
def lvl (j : T) : ℕ := if j.val < 3 then 2 else 3 + stepOf j

/-! The semaphores: 62 consecutive ones from number 3 on. -/

/-- The place of copy `j`'s departure semaphore among the 62; -/
def sIx (j : T) : Fin 62 := ⟨if j.val < 3 then j.val else if j.val < 19 then 3 + j.val else 19 + j.val, by split <;> [omega; split <;> omega]⟩
/-- of its landing semaphore. -/
def rIx (j : T) : Fin 62 := ⟨if j.val < 3 then 3 + j.val else if j.val < 19 then 19 + j.val else 31 + j.val, by split <;> [omega; split <;> omega]⟩

/-- Which copy a semaphore serves, and whether it is its departure (`inl`) or its landing (`inr`). -/
def role (k : Fin 62) : T ⊕ T :=
  if k.val < 3 then .inl (Fin.ofNat 31 k.val)
  else if k.val < 6 then .inr (Fin.ofNat 31 (k.val - 3))
  else if k.val < 22 then .inl (Fin.ofNat 31 (k.val - 3))
  else if k.val < 38 then .inr (Fin.ofNat 31 (k.val - 19))
  else if k.val < 50 then .inl (Fin.ofNat 31 (k.val - 19))
  else .inr (Fin.ofNat 31 (k.val - 31))

theorem role_sIx : ∀ j : T, role (sIx j) = .inl j := by decide +kernel
theorem role_rIx : ∀ j : T, role (rIx j) = .inr j := by decide +kernel
theorem ix_role : ∀ k : Fin 62, Sum.elim sIx rIx (role k) = k := by decide +kernel

def roleEquiv : T ⊕ T ≃ Fin 62 :=
  ⟨Sum.elim sIx rIx, role, fun x => by rcases x with j | j; exacts [role_sIx j, role_rIx j], ix_role⟩

theorem sIx_ne_rIx (i j : T) : sIx i ≠ rIx j := fun h => by
  have := congrArg role h
  rw [role_sIx, role_rIx] at this
  cases this
theorem sIx_inj {i j : T} (h : sIx i = sIx j) : i = j := by
  have := congrArg role h
  rw [role_sIx, role_sIx] at this
  exact Sum.inl.inj this
theorem rIx_inj {i j : T} (h : rIx i = rIx j) : i = j := by
  have := congrArg role h
  rw [role_rIx, role_rIx] at this
  exact Sum.inr.inj this

/-! The kernel's own device numbers and row offsets, in these terms. -/

/-- The offset of chunk `q`. -/
def at32 (q : Dev nD) : Fin 2 → Nat := ![32 * q.val, 0]

theorem dev1 : ∀ c : Dev nD, (⟨k0_dev1 c, k0_dev1_lt c⟩ : Dev nD) = hand 0 c := by decide +kernel
theorem dev2 : ∀ c : Dev nD, (⟨k0_dev2 c, k0_dev2_lt c⟩ : Dev nD) = hand 1 c := by decide +kernel
theorem dev3 : ∀ c : Dev nD, (⟨k0_dev3 c, k0_dev3_lt c⟩ : Dev nD) = hand 2 c := by decide +kernel
theorem dev4 : ∀ c : Dev nD, (⟨k0_dev4 c, k0_dev4_lt c⟩ : Dev nD) = hand 3 c := by decide +kernel
theorem dev5 : ∀ c : Dev nD, (⟨k0_dev5 c, k0_dev5_lt c⟩ : Dev nD) = hand 4 c := by decide +kernel
theorem dev6 : ∀ c : Dev nD, (⟨k0_dev6 c, k0_dev6_lt c⟩ : Dev nD) = tgt 0 c := by decide +kernel
theorem dev7 : ∀ c : Dev nD, (⟨k0_dev7 c, k0_dev7_lt c⟩ : Dev nD) = tgt 1 c := by decide +kernel
theorem dev8 : ∀ c : Dev nD, (⟨k0_dev8 c, k0_dev8_lt c⟩ : Dev nD) = tgt 2 c := by decide +kernel
theorem dev9 : ∀ c : Dev nD, (⟨k0_dev9 c, k0_dev9_lt c⟩ : Dev nD) = tgt 3 c := by decide +kernel
theorem dev10 : ∀ c : Dev nD, (⟨k0_dev10 c, k0_dev10_lt c⟩ : Dev nD) = tgt 19 c := by decide +kernel
theorem dev11 : ∀ c : Dev nD, (⟨k0_dev11 c, k0_dev11_lt c⟩ : Dev nD) = tgt 7 c := by decide +kernel
theorem dev12 : ∀ c : Dev nD, (⟨k0_dev12 c, k0_dev12_lt c⟩ : Dev nD) = tgt 22 c := by decide +kernel
theorem dev13 : ∀ c : Dev nD, (⟨k0_dev13 c, k0_dev13_lt c⟩ : Dev nD) = tgt 11 c := by decide +kernel
theorem dev14 : ∀ c : Dev nD, (⟨k0_dev14 c, k0_dev14_lt c⟩ : Dev nD) = tgt 25 c := by decide +kernel
theorem dev15 : ∀ c : Dev nD, (⟨k0_dev15 c, k0_dev15_lt c⟩ : Dev nD) = tgt 15 c := by decide +kernel
theorem dev16 : ∀ c : Dev nD, (⟨k0_dev16 c, k0_dev16_lt c⟩ : Dev nD) = tgt 28 c := by decide +kernel
theorem dev17 : ∀ c : Dev nD, (⟨k0_dev17 c, k0_dev17_lt c⟩ : Dev nD) = tgt 4 c := by decide +kernel
theorem dev18 : ∀ c : Dev nD, (⟨k0_dev18 c, k0_dev18_lt c⟩ : Dev nD) = tgt 20 c := by decide +kernel
theorem dev19 : ∀ c : Dev nD, (⟨k0_dev19 c, k0_dev19_lt c⟩ : Dev nD) = tgt 8 c := by decide +kernel
theorem dev20 : ∀ c : Dev nD, (⟨k0_dev20 c, k0_dev20_lt c⟩ : Dev nD) = tgt 23 c := by decide +kernel
theorem dev21 : ∀ c : Dev nD, (⟨k0_dev21 c, k0_dev21_lt c⟩ : Dev nD) = tgt 12 c := by decide +kernel
theorem dev22 : ∀ c : Dev nD, (⟨k0_dev22 c, k0_dev22_lt c⟩ : Dev nD) = tgt 26 c := by decide +kernel
theorem dev23 : ∀ c : Dev nD, (⟨k0_dev23 c, k0_dev23_lt c⟩ : Dev nD) = tgt 16 c := by decide +kernel
theorem dev24 : ∀ c : Dev nD, (⟨k0_dev24 c, k0_dev24_lt c⟩ : Dev nD) = tgt 29 c := by decide +kernel
theorem dev25 : ∀ c : Dev nD, (⟨k0_dev25 c, k0_dev25_lt c⟩ : Dev nD) = tgt 5 c := by decide +kernel
theorem dev26 : ∀ c : Dev nD, (⟨k0_dev26 c, k0_dev26_lt c⟩ : Dev nD) = tgt 21 c := by decide +kernel
theorem dev27 : ∀ c : Dev nD, (⟨k0_dev27 c, k0_dev27_lt c⟩ : Dev nD) = tgt 9 c := by decide +kernel
theorem dev28 : ∀ c : Dev nD, (⟨k0_dev28 c, k0_dev28_lt c⟩ : Dev nD) = tgt 24 c := by decide +kernel
theorem dev29 : ∀ c : Dev nD, (⟨k0_dev29 c, k0_dev29_lt c⟩ : Dev nD) = tgt 13 c := by decide +kernel
theorem dev30 : ∀ c : Dev nD, (⟨k0_dev30 c, k0_dev30_lt c⟩ : Dev nD) = tgt 27 c := by decide +kernel
theorem dev31 : ∀ c : Dev nD, (⟨k0_dev31 c, k0_dev31_lt c⟩ : Dev nD) = tgt 17 c := by decide +kernel
theorem dev32 : ∀ c : Dev nD, (⟨k0_dev32 c, k0_dev32_lt c⟩ : Dev nD) = tgt 30 c := by decide +kernel
theorem dev33 : ∀ c : Dev nD, (⟨k0_dev33 c, k0_dev33_lt c⟩ : Dev nD) = tgt 6 c := by decide +kernel
theorem dev34 : ∀ c : Dev nD, (⟨k0_dev34 c, k0_dev34_lt c⟩ : Dev nD) = tgt 10 c := by decide +kernel
theorem dev35 : ∀ c : Dev nD, (⟨k0_dev35 c, k0_dev35_lt c⟩ : Dev nD) = tgt 14 c := by decide +kernel
theorem dev36 : ∀ c : Dev nD, (⟨k0_dev36 c, k0_dev36_lt c⟩ : Dev nD) = tgt 18 c := by decide +kernel
theorem off_0 : ∀ c : Dev nD, k0_off2 c = at32 (chunk 0 c) := by decide +kernel
theorem off_1 : ∀ c : Dev nD, k0_off2 c = at32 (chunk 1 c) := by decide +kernel
theorem off_2 : ∀ c : Dev nD, k0_off2 c = at32 (chunk 2 c) := by decide +kernel
theorem off_3 : ∀ c : Dev nD, k0_off3 c 0#32 = at32 (chunk 3 c) := by decide +kernel
theorem off_19 : ∀ c : Dev nD, k0_off3 c 0#32 = at32 (chunk 19 c) := by decide +kernel
theorem off_7 : ∀ c : Dev nD, k0_off3 c 1#32 = at32 (chunk 7 c) := by decide +kernel
theorem off_22 : ∀ c : Dev nD, k0_off3 c 1#32 = at32 (chunk 22 c) := by decide +kernel
theorem off_11 : ∀ c : Dev nD, k0_off3 c 2#32 = at32 (chunk 11 c) := by decide +kernel
theorem off_25 : ∀ c : Dev nD, k0_off3 c 2#32 = at32 (chunk 25 c) := by decide +kernel
theorem off_15 : ∀ c : Dev nD, k0_off3 c 3#32 = at32 (chunk 15 c) := by decide +kernel
theorem off_28 : ∀ c : Dev nD, k0_off3 c 3#32 = at32 (chunk 28 c) := by decide +kernel
theorem off_4 : ∀ c : Dev nD, k0_off4 c 0#32 3#32 0#32 1#32 4#32 7#32 2#32 5#32 6#32 = at32 (chunk 4 c) := by decide +kernel
theorem off_20 : ∀ c : Dev nD, k0_off4 c 0#32 1#32 2#32 5#32 0#32 3#32 6#32 7#32 4#32 = at32 (chunk 20 c) := by decide +kernel
theorem off_8 : ∀ c : Dev nD, k0_off4 c 1#32 3#32 0#32 1#32 4#32 7#32 2#32 5#32 6#32 = at32 (chunk 8 c) := by decide +kernel
theorem off_23 : ∀ c : Dev nD, k0_off4 c 1#32 1#32 2#32 5#32 0#32 3#32 6#32 7#32 4#32 = at32 (chunk 23 c) := by decide +kernel
theorem off_12 : ∀ c : Dev nD, k0_off4 c 2#32 3#32 0#32 1#32 4#32 7#32 2#32 5#32 6#32 = at32 (chunk 12 c) := by decide +kernel
theorem off_26 : ∀ c : Dev nD, k0_off4 c 2#32 1#32 2#32 5#32 0#32 3#32 6#32 7#32 4#32 = at32 (chunk 26 c) := by decide +kernel
theorem off_16 : ∀ c : Dev nD, k0_off4 c 3#32 3#32 0#32 1#32 4#32 7#32 2#32 5#32 6#32 = at32 (chunk 16 c) := by decide +kernel
theorem off_29 : ∀ c : Dev nD, k0_off4 c 3#32 1#32 2#32 5#32 0#32 3#32 6#32 7#32 4#32 = at32 (chunk 29 c) := by decide +kernel
theorem off_5 : ∀ c : Dev nD, k0_off5 c 0#32 3#32 0#32 1#32 4#32 7#32 2#32 5#32 6#32 3#32 0#32 1#32 4#32 7#32 2#32 5#32 6#32 = at32 (chunk 5 c) := by decide +kernel
theorem off_21 : ∀ c : Dev nD, k0_off5 c 0#32 1#32 2#32 5#32 0#32 3#32 6#32 7#32 4#32 1#32 2#32 5#32 0#32 3#32 6#32 7#32 4#32 = at32 (chunk 21 c) := by decide +kernel
theorem off_9 : ∀ c : Dev nD, k0_off5 c 1#32 3#32 0#32 1#32 4#32 7#32 2#32 5#32 6#32 3#32 0#32 1#32 4#32 7#32 2#32 5#32 6#32 = at32 (chunk 9 c) := by decide +kernel
theorem off_24 : ∀ c : Dev nD, k0_off5 c 1#32 1#32 2#32 5#32 0#32 3#32 6#32 7#32 4#32 1#32 2#32 5#32 0#32 3#32 6#32 7#32 4#32 = at32 (chunk 24 c) := by decide +kernel
theorem off_13 : ∀ c : Dev nD, k0_off5 c 2#32 3#32 0#32 1#32 4#32 7#32 2#32 5#32 6#32 3#32 0#32 1#32 4#32 7#32 2#32 5#32 6#32 = at32 (chunk 13 c) := by decide +kernel
theorem off_27 : ∀ c : Dev nD, k0_off5 c 2#32 1#32 2#32 5#32 0#32 3#32 6#32 7#32 4#32 1#32 2#32 5#32 0#32 3#32 6#32 7#32 4#32 = at32 (chunk 27 c) := by decide +kernel
theorem off_17 : ∀ c : Dev nD, k0_off5 c 3#32 3#32 0#32 1#32 4#32 7#32 2#32 5#32 6#32 3#32 0#32 1#32 4#32 7#32 2#32 5#32 6#32 = at32 (chunk 17 c) := by decide +kernel
theorem off_30 : ∀ c : Dev nD, k0_off5 c 3#32 1#32 2#32 5#32 0#32 3#32 6#32 7#32 4#32 1#32 2#32 5#32 0#32 3#32 6#32 7#32 4#32 = at32 (chunk 30 c) := by decide +kernel
theorem off_6 : ∀ c : Dev nD, k0_off6 c 0#32 = at32 (chunk 6 c) := by decide +kernel
theorem off_10 : ∀ c : Dev nD, k0_off6 c 1#32 = at32 (chunk 10 c) := by decide +kernel
theorem off_14 : ∀ c : Dev nD, k0_off6 c 2#32 = at32 (chunk 14 c) := by decide +kernel
theorem off_18 : ∀ c : Dev nD, k0_off6 c 3#32 = at32 (chunk 18 c) := by decide +kernel
theorem off_own : ∀ c : Dev nD, k0_off1 c = at32 c := by decide +kernel

end Cert.Gather

end
-- ==== Proof.Rows.lean ====
/-
The gathered array's rows. A set of chunks is the set of its elements whose row belongs to one of them; a
chunk held whole is held as a half that stays with the device for its loads, one piece for each copy that sends
the chunk, and a remainder.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's rounds and the gather's own, whose duties are named by `Fin 5`. -/
abbrev UB : Type := URounds (GSem nD τ sig) (Fin 5)
abbrev UU : Type := UR sig nD τ × UB

local notation "𝕄" => MT nD τ sig Unit (Elt F) ℕ UU ℕ

omit [FloatOps F] in
/-- Two assertions each of which entails the other are one. -/
theorem eqv {P Q : sProp 𝕄} (h : P ⊣⊢ Q) : P = Q := BI.equiv_iff.mp ⟨h.1, h.2⟩

/-- The gathered array. -/
abbrev gM : Memref sig .tc .vmem S1024x1024 .bf16 := Memref.whole cc0_scratch0

theorem at32_inb (q : Dev nD) : ∀ a, at32 q a + S32x1024.size a ≤ S1024x1024.size a := by
  revert q; decide +kernel

/-- The rows of chunk `q`. -/
abbrev rect (q : Dev nD) : Rect S1024x1024 := Rect.unit (s := S1024x1024) (at32 q) S32x1024.size (at32_inb q)

/-- The device whose rows an element of the gathered array lies in, -/
def owner (i : S1024x1024.Idx) : Dev nD := ⟨(i 0).val / 32, by have := (i 0).isLt; exact Nat.div_lt_of_lt_mul this⟩

/-- The elements of a set of chunks. -/
def rowsOf (S : Finset (Dev nD)) : Finset S1024x1024.Idx := Finset.univ.filter fun i => owner i ∈ S

theorem mem_rowsOf {S : Finset (Dev nD)} {i : S1024x1024.Idx} : i ∈ rowsOf S ↔ owner i ∈ S := by
  unfold rowsOf; simp

theorem rowsOf_univ : rowsOf Finset.univ = Finset.univ := by
  ext i; simp [mem_rowsOf]

theorem rowsOf_union (S S' : Finset (Dev nD)) : rowsOf (S ∪ S') = rowsOf S ∪ rowsOf S' := by
  ext i; simp [mem_rowsOf]

theorem rowsOf_disjoint {S S' : Finset (Dev nD)} (h : Disjoint S S') : Disjoint (rowsOf S) (rowsOf S') :=
  Finset.disjoint_left.mpr fun i hi hi' => Finset.disjoint_left.mp h (mem_rowsOf.mp hi) (mem_rowsOf.mp hi')

theorem rect_set (q : Dev nD) : (rect q).set = rowsOf {q} := by
  ext i
  rw [Rect.mem_set_unit, mem_rowsOf, Finset.mem_singleton, Fin.ext_iff]
  have h1 := (i 1).isLt
  constructor
  · intro h
    have h' : 32 * q.val ≤ (i 0).val ∧ (i 0).val < 32 * q.val + 32 := h 0
    show (i 0).val / 32 = q.val
    omega
  · intro h a
    have h' : (i 0).val / 32 = q.val := h
    fin_cases a
    · show 32 * q.val ≤ (i 0).val ∧ (i 0).val < 32 * q.val + 32
      omega
    · show 0 ≤ (i 1).val ∧ (i 1).val < 0 + 1024
      exact ⟨Nat.zero_le _, by have : (i 1).val < 1024 := h1; omega⟩

/-- The chunks `S` of device `c`'s gathered array, at share `q`, with contents `f`. -/
def pts (c : Dev nD) (S : Finset (Dev nD)) (q : PosShare TreeShare) (f : cc0_scratch0.ty.Contents (Elt F)) : sProp 𝕄 :=
  ((c : Thread nD τ).loc cc0_scratch0) ↦[rowsOf S]{q} f

instance pts_storable (c : Dev nD) (S : Finset (Dev nD)) (q : PosShare TreeShare) (f : cc0_scratch0.ty.Contents (Elt F)) :
    BI.Storable (upEmb : UEmb _ 𝕄) (pts c S q f) := by unfold pts; infer_instance

omit [FloatOps F] in
theorem pts_union (c : Dev nD) {S S' : Finset (Dev nD)} (h : Disjoint S S') (q : PosShare TreeShare)
    (f : cc0_scratch0.ty.Contents (Elt F)) : (pts c (S ∪ S') q f : sProp 𝕄) = iprop(pts c S q f ∗ pts c S' q f) := by
  unfold pts
  rw [rowsOf_union]
  exact eqv (pointsTo_union (rowsOf_disjoint h))

omit [FloatOps F] in
theorem pts_halves (c : Dev nD) (S : Finset (Dev nD)) (q : PosShare TreeShare) (f : cc0_scratch0.ty.Contents (Elt F)) :
    (pts c S q f : sProp 𝕄) = iprop(pts c S q.left f ∗ pts c S q.right f) := by
  unfold pts
  exact eqv (pointsTo_share q.mem_left_op_right)

/-- What `q` comes to after `n` pieces are given away, each the right half of what was left, -/
def held (q : PosShare TreeShare) : ℕ → PosShare TreeShare
  | 0 => q
  | n + 1 => (held q n).left

/-- and the piece that goes at step `n`. -/
def piece (q : PosShare TreeShare) (n : ℕ) : PosShare TreeShare := (held q n).right

/-- The half of a chunk that stays for the loads; the piece copy `j` sends from; what remains when the copies that send
    the chunk of landing `i` have theirs. -/
abbrev shK : PosShare TreeShare := fullShare.left
abbrev shJ (j : T) : PosShare TreeShare := piece fullShare.right (ord j)
abbrev shR (i : Option T) : PosShare TreeShare := held fullShare.right (kids i).card

theorem ord_kids : ∀ i : Option T, (kids i).image ord = Finset.range (kids i).card := by decide +kernel
theorem ord_inj : ∀ (i : Option T), ∀ j ∈ kids i, ∀ j' ∈ kids i, ord j = ord j' → j = j' := by decide +kernel

omit [FloatOps F] in
theorem pts_lend (c : Dev nD) (S : Finset (Dev nD)) (q : PosShare TreeShare) (f : cc0_scratch0.ty.Contents (Elt F)) (n : ℕ) :
    (pts c S q f : sProp 𝕄) = iprop(pts c S (held q n) f ∗ bigSep (Finset.range n) fun k => pts c S (piece q k) f) := by
  induction n with
  | zero => rw [Finset.range_zero, bigSep_empty]; exact (eqv sep_emp).symm
  | succ n ih =>
    rw [Finset.range_add_one, bigSep_insert Finset.notMem_range_self, ih, pts_halves c S (held q n) f]
    show iprop((pts c S (held q n).left f ∗ pts c S (held q n).right f) ∗ _) = _
    exact eqv sep_assoc

/-- A chunk held whole, dealt to the loads and to the copies that send it. -/
theorem pts_deal (c : Dev nD) (q : Dev nD) (i : Option T) (f : cc0_scratch0.ty.Contents (Elt F)) :
    (pts c {q} fullShare f : sProp 𝕄)
      = iprop(pts c {q} shK f ∗ pts c {q} (shR i) f ∗ bigSep (kids i) fun j => pts c {q} (shJ j) f) := by
  rw [pts_halves c {q} fullShare f, pts_lend c {q} fullShare.right f (kids i).card, ← ord_kids i,
    bigSep_image_of_injOn (fun j hj j' hj' h => ord_inj i j hj j' hj' h)]

/-- What a device holds of its gathered array, at any contents, is its own chunk and those that land. -/
theorem pts_scatter (c : Dev nD) (f : cc0_scratch0.ty.Contents (Elt F)) :
    (((c : Thread nD τ).loc cc0_scratch0) ↦{fullShare} f : sProp 𝕄)
      = iprop(pts c {c} fullShare f ∗ bigSep Finset.univ fun j : T => pts c {arr j c} fullShare f) := by
  have h : (((c : Thread nD τ).loc cc0_scratch0) ↦{fullShare} f : sProp 𝕄)
      = bigSep Finset.univ fun i : Option T => pts c {chunkOf i c} fullShare f := by
    unfold pts
    refine Eq.trans ?_ (pointsTo_biUnion (ℓ := (c : Thread nD τ).loc cc0_scratch0) Finset.univ (fun i : Option T => rowsOf {chunkOf i c})
      (fun t _ t' _ hne => rowsOf_disjoint (Finset.disjoint_singleton.mpr fun e => hne (chunkOf_injective c e))))
    congr 1
    symm
    ext i
    obtain ⟨t, ht⟩ := chunkOf_surjective c (owner i)
    exact ⟨fun _ => Finset.mem_univ _, fun _ => Finset.mem_biUnion.mpr
      ⟨t, Finset.mem_univ _, mem_rowsOf.mpr (Finset.mem_singleton.mpr ht.symm)⟩⟩
  rw [h, show (Finset.univ : Finset (Option T)) = insert none ((Finset.univ : Finset T).map Function.Embedding.some) from by
      ext x; cases x <;> simp, bigSep_insert (by simp), bigSep_map]
  rfl

/-- The gathered array of the chunks `xs`. -/
def gath (xs : Dev nD → FVec F S32x1024 .bf16) : cc0_scratch0.ty.Contents (Elt F) :=
  fun i => xs (owner i) (ValueIdx.ix2 (⟨(i 0).val % 32, Nat.mod_lt _ (by decide)⟩ : Fin 32) (i 1))

end Cert.Gather

end
-- ==== Proof.Sched.lean ====
/-
The protocol. Every device has a barrier cell, and a departure and a landing cell for each of its 31 copies.
  Barrier cell of `d`: five duties of one unit. Duty `s` is paid by `back s d`, and hands `d` the rows of the
    payer's gathered array that `d`'s copies with `grp j = s` will fill, at any contents.
  Departure cell `j` of `c`: one duty of a chunk's credit, paid when copy `j` has been read; it returns the piece of
    the chunk that the copy was lent.
  Landing cell `j` of `c`: one duty of a chunk's credit, paid by `org j c`; it hands `c` the rows of the arriving chunk,
    holding that chunk of the gathered array.
-/
module

public import proofs.«01_k».proof.Proof.Rows

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier semaphore of collective id 0. -/
abbrev barS : Sem sig := (SemArray.scalar (sig.barrier 0 rfl) : Sems sig S_).sem

/-- Copy semaphore `k` of the 62, and back. -/
def ksem (k : Fin 62) : DmaSem sig := (⟨3 + k.val, by have := k.isLt; show 3 + k.val < 65; omega⟩ : Fin 65)
def slot (s : DmaSem sig) : Option (Fin 62) :=
  if h : 3 ≤ s.val then some ⟨s.val - 3, by have h' : s.val < 65 := s.isLt; omega⟩ else none
theorem slot_ksem : ∀ k : Fin 62, slot (ksem k) = some k := by decide +kernel
theorem ksem_inj {k k' : Fin 62} (h : ksem k = ksem k') : k = k' := by
  have := congrArg slot h
  rw [slot_ksem, slot_ksem] at this
  exact Option.some.inj this

/-- The semaphores of the copies, and with them the barrier's. -/
abbrev osem (k : Fin 62) : SemLoc sig := .dma (ksem k)
abbrev csem : Option (Fin 62) → SemLoc sig := fun | none => .reg barS | some k => osem k

abbrev barCell (c : Dev nD) : GSem nD τ sig := ((c : Thread nD τ), .reg barS)
abbrev gcell (c : Dev nD) (k : Fin 62) : GSem nD τ sig := ((c : Thread nD τ), osem k)
abbrev sCell (j : T) (c : Dev nD) : GSem nD τ sig := gcell c (sIx j)
abbrev rCell (j : T) (c : Dev nD) : GSem nD τ sig := gcell c (rIx j)
abbrev kcell (ck : Dev nD × Option (Fin 62)) : GSem nD τ sig := ((ck.1 : Thread nD τ), csem ck.2)

theorem osem_ne_bar (k : Fin 62) : (osem k : SemLoc sig) ≠ .reg barS := fun h => by cases h

/-- A chunk as the copies name it, and its credit. -/
abbrev chunkM (off : Fin 2 → Nat) (h : ∀ a, off a + S32x1024.size a ≤ S1024x1024.size a) : Memref sig .tc .vmem S32x1024 .bf16 :=
  gM.slice (Rect.unit (s := S1024x1024) off S32x1024.size h) (fun _ => rfl)
abbrev N : ℕ := (chunkM (at32 0) (at32_inb 0)).view.dmaCredit
theorem N_pos : 0 < N := View.dmaCredit_pos _ (by decide)

/-! ## The schedule -/

variable (X : cc0_scratch0.ty.Contents (Elt F))

/-- What a barrier cell's duty `s` hands device `d`. -/
def barPay (s : Fin 5) (d : Dev nD) : sProp 𝕄 :=
  bigSep (Finset.univ.filter fun j : T => grp j = s) fun j => iprop(∃ f, pts (tgt j d) {chunk j d} fullShare f)
def sendPay (j : T) (c : Dev nD) : sProp 𝕄 := pts c {chunk j c} (shJ j) X
def recvPay (j : T) (c : Dev nD) : sProp 𝕄 := pts c {arr j c} fullShare X

/-- What the duty of a copy semaphore hands over. -/
def slotPay (k : Fin 62) (c : Dev nD) : sProp 𝕄 := match role k with
  | .inl j => sendPay X j c
  | .inr j => recvPay X j c

instance barPay_storable (s : Fin 5) (d : Dev nD) : BI.Storable (upEmb : UEmb _ 𝕄) (barPay s d) := by
  unfold barPay; infer_instance
instance slotPay_storable (k : Fin 62) (c : Dev nD) : BI.Storable (upEmb : UEmb _ 𝕄) (slotPay X k c) := by
  unfold slotPay sendPay recvPay; split <;> infer_instance

def gatherRd : Rounds.Schedule (GSem nD τ sig) (Fin 5) 𝕄 where
  duties g r := if r = 0 ∧ g.1.2 = .tc then
      (match g.2 with
        | .reg s => if s = barS then Finset.univ else ∅
        | .dma s => if (slot s).isSome then {0} else ∅)
    else ∅
  unitless _ := False
  amount g _ _ := match g.2 with | .reg _ => 1 | .dma _ => N
  payload g _ d := match g.2 with
    | .reg _ => barPay d g.1.1
    | .dma s => match slot s with
      | some k => slotPay X k g.1.1
      | none => iprop(emp)
  amount_pos g _ _ _ := by
    show 0 < (match g.2 with | .reg _ => 1 | .dma _ => N)
    split
    · exact Nat.one_pos
    · exact N_pos

instance gatherRd_payload_storable (g : GSem nD τ sig) (r : ℕ) (d : Fin 5) :
    BI.Storable (upEmb : UEmb _ 𝕄) ((gatherRd X).payload g r d) := by
  show BI.Storable upEmb (match g.2 with
    | .reg _ => barPay d g.1.1
    | .dma s => match slot s with
      | some k => slotPay X k g.1.1
      | none => iprop(emp))
  (repeat' split) <;> infer_instance

theorem duties_bar (c : Dev nD) : (gatherRd X).duties (barCell c) 0 = Finset.univ := by
  dsimp only [gatherRd]; rw [if_pos ⟨rfl, rfl⟩]; exact if_pos rfl
theorem duties_gcell (c : Dev nD) (k : Fin 62) : (gatherRd X).duties (gcell c k) 0 = {0} := by
  dsimp only [gatherRd]; rw [if_pos ⟨rfl, rfl⟩, slot_ksem]; exact if_pos rfl
theorem duties_later (g : GSem nD τ sig) : ∀ r, 1 ≤ r → (gatherRd X).duties g r = ∅ :=
  fun r hr => by dsimp only [gatherRd]; rw [if_neg fun h => by omega]
theorem amount_bar (c : Dev nD) (d : Fin 5) : (gatherRd X).amount (barCell c) 0 d = 1 := rfl
theorem amount_gcell (c : Dev nD) (k : Fin 62) (d : Fin 5) : (gatherRd X).amount (gcell c k) 0 d = N := rfl
theorem expect_bar (c : Dev nD) : (gatherRd X).expect (barCell c) 0 = 5 := by
  unfold Schedule.expect Schedule.amountOf
  rw [duties_bar, Finset.sum_congr rfl fun d _ => amount_bar X c d, Finset.sum_const, Finset.card_univ, Fintype.card_fin, smul_eq_mul]
theorem expect_gcell (c : Dev nD) (k : Fin 62) : (gatherRd X).expect (gcell c k) 0 = N := by
  unfold Schedule.expect Schedule.amountOf; rw [duties_gcell, Finset.sum_singleton, amount_gcell]
theorem payload_bar (c : Dev nD) (s : Fin 5) : (gatherRd X).payload (barCell c) 0 s = barPay s c := rfl
theorem payload_gcell (c : Dev nD) (k : Fin 62) (d : Fin 5) : (gatherRd X).payload (gcell c k) 0 d = slotPay X k c := by
  dsimp only [gatherRd]; rw [slot_ksem]
theorem slotPay_s (j : T) (c : Dev nD) : slotPay X (sIx j) c = sendPay X j c := by unfold slotPay; rw [role_sIx]
theorem slotPay_r (j : T) (c : Dev nD) : slotPay X (rIx j) c = recvPay X j c := by unfold slotPay; rw [role_rIx]

/-- The payloads of a barrier cell's round: the rows of every neighbour that the device's copies fill. -/
theorem rest_bar (c : Dev nD) :
    bigSep ((gatherRd X).duties (barCell c) 0 \ ∅) (fun d => (gatherRd X).payload (barCell c) 0 d)
      = bigSep Finset.univ fun j : T => iprop(∃ f, pts (tgt j c) {chunk j c} fullShare f) := by
  rw [Finset.sdiff_empty, duties_bar]
  show bigSep Finset.univ (fun s => barPay s c) = _
  unfold barPay
  refine (BI.bigSep_biUnion_eq Finset.univ (fun s : Fin 5 => Finset.univ.filter fun j : T => grp j = s)
    (fun j : T => iprop(∃ f, pts (tgt j c) {chunk j c} fullShare f)) (fun s _ s' _ hne => Finset.disjoint_left.mpr fun j hj hj' =>
      hne ((Finset.mem_filter.mp hj).2.symm.trans (Finset.mem_filter.mp hj').2))).symm.trans ?_
  congr 1
  ext j
  exact ⟨fun _ => Finset.mem_univ _, fun _ => Finset.mem_biUnion.mpr ⟨grp j, Finset.mem_univ _, Finset.mem_filter.mpr ⟨Finset.mem_univ _, rfl⟩⟩⟩
theorem rest_gcell (c : Dev nD) (k : Fin 62) :
    bigSep ((gatherRd X).duties (gcell c k) 0 \ ∅) (fun d => (gatherRd X).payload (gcell c k) 0 d) = slotPay X k c := by
  rw [Finset.sdiff_empty, duties_gcell, bigSep_singleton, payload_gcell]

/-! ## What a device owes; the levels -/

/-- What is still owed when the signals `S` and the copies `P` are to come. -/
def owe (c : Dev nD) (S : Finset (Fin 5)) (P : Finset T) : CellTallies nD τ sig Unit :=
  (∑ s ∈ S, tallyAt (barCell (hand s c)) () 1) + ∑ j ∈ P, tallyAt (rCell j (tgt j c)) () N

theorem owe_signal (c : Dev nD) {S : Finset (Fin 5)} (P : Finset T) {s : Fin 5} (h : s ∈ S) :
    owe c S P = owe c (S.erase s) P + tallyAt (barCell (hand s c)) () 1 := by
  unfold owe
  rw [← Finset.sum_erase_add S _ h]
  exact add_right_comm _ _ _
theorem owe_send (c : Dev nD) (S : Finset (Fin 5)) {P : Finset T} {j : T} (h : j ∈ P) :
    owe c S P = owe c S (P.erase j) + tallyAt (rCell j (tgt j c)) () N := by
  unfold owe
  rw [← Finset.sum_erase_add P _ h]
  exact (add_assoc _ _ _).symm

theorem tally_sum_pos {I : Type} [DecidableEq I] {A : Finset I} {cell : I → GSem nD τ sig} {n : I → ℕ} {g : GSem nD τ sig} {u : Unit}
    (h : 0 < (∑ i ∈ A, (tallyAt (cell i) () (n i) : CellTallies nD τ sig Unit)) g u) : ∃ i ∈ A, g = cell i := by
  induction A using Finset.induction_on with
  | empty => rw [Finset.sum_empty] at h; exact absurd h (Nat.lt_irrefl 0)
  | insert i A hi ih =>
    rw [Finset.sum_insert hi, Pi.add_apply, Finsupp.add_apply, tallyAt_apply] at h
    by_cases hg : g = cell i
    · exact ⟨i, Finset.mem_insert_self _ _, hg⟩
    · rw [if_neg (fun h' => hg h'.1), Nat.zero_add] at h
      obtain ⟨i', hi', e⟩ := ih h
      exact ⟨i', Finset.mem_insert_of_mem hi', e⟩

theorem owe_pos {c : Dev nD} {S : Finset (Fin 5)} {P : Finset T} {g : GSem nD τ sig} {u : Unit} (h : 0 < owe c S P g u) :
    (∃ s ∈ S, g = barCell (hand s c)) ∨ ∃ j ∈ P, g = rCell j (tgt j c) := by
  unfold owe at h
  rw [Pi.add_apply, Finsupp.add_apply] at h
  rcases Nat.eq_zero_or_pos ((∑ s ∈ S, (tallyAt (barCell (hand s c)) () 1 : CellTallies nD τ sig Unit)) g u) with h0 | h0
  · rw [h0, Nat.zero_add] at h
    exact .inr (tally_sum_pos h)
  · exact .inl (tally_sum_pos h0)

def L (g : GSem nD τ sig) : Finset Unit := if g.1.2 = .tc then {()} else ∅
/-- Barrier cells at 1, landing cells at their copy's level, everything else at 0. -/
def lv (g : GSem nD τ sig) (_ : Unit) : ℕ := match g.2 with
  | .reg _ => 1
  | .dma s => match slot s with
    | some k => (match role k with | .inl _ => 0 | .inr j => lvl j)
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_s (j : T) (c : Dev nD) : lv (sCell j c) () = 0 := by dsimp only [lv]; rw [slot_ksem]; dsimp only; rw [role_sIx]
theorem lv_r (j : T) (c : Dev nD) : lv (rCell j c) () = lvl j := by dsimp only [lv]; rw [slot_ksem]; dsimp only; rw [role_rIx]
theorem lvl_pos (j : T) : 2 ≤ lvl j := by unfold lvl; split <;> omega

/-- A wait below every level still owed is allowed. -/
theorem mayWait (c : Dev nD) (sm : SemLoc sig) {S : Finset (Fin 5)} {P : Finset T}
    (hS : ∀ s ∈ S, lv ((c : Thread nD τ), sm) () < 1) (hP : ∀ j ∈ P, lv ((c : Thread nD τ), sm) () < lvl j) :
    (levAts L lv : sProp 𝕄) ⊢ MayWait (c : Thread nD τ) sm () (owe c S P) :=
  MayOwe.of_cut (L := L) (lev := lv) (lv ((c : Thread nD τ), sm) ())
    (fun p hp => by rw [Finset.mem_singleton.mp hp, L_tc]; exact Finset.mem_singleton_self _)
    (fun g u hg => by rcases owe_pos hg with ⟨s, hs, rfl⟩ | ⟨j, hj, rfl⟩ <;> exact Finset.mem_singleton_self _)
    (fun p hp => by rw [Finset.mem_singleton.mp hp])
    (fun g u hg => by
      rcases owe_pos hg with ⟨s, hs, rfl⟩ | ⟨j, hj, rfl⟩
      · exact hS s hs
      · rw [lv_r]; exact hP j hj)

end Cert.Gather

end
-- ==== Proof.Steps.lean ====
/-
A device's state between two effects of the body, and one lemma for each kind of effect: a signal, the wait at
the barrier, the issue of a copy, the wait for a landing, the wait for a departure. Each lemma carries the rest of what the
device holds unchanged.
-/
module

public import proofs.«01_k».proof.Proof.Sched

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : cc0_scratch0.ty.Contents (Elt F))

/-! ## `bigSep` over a finite set of indices, one index apart -/

section
variable {I : Type} [DecidableEq I] {s t : Finset I} {i : I} {Φ : I → sProp (MT nD τ sig Unit (Elt F) ℕ UU ℕ)}
omit [FloatOps F] in
theorem bs_erase (hi : i ∈ s) : bigSep s Φ = iprop(Φ i ∗ bigSep (s.erase i) Φ) := bigSep_erase hi
omit [FloatOps F] in
theorem bs_insert (hi : i ∉ s) : bigSep (insert i s) Φ = iprop(Φ i ∗ bigSep s Φ) := bigSep_insert hi
omit [FloatOps F] in
theorem bs_union (h : Disjoint s t) : bigSep (s ∪ t) Φ = iprop(bigSep s Φ ∗ bigSep t Φ) := bigSep_union h
omit [FloatOps F] in
theorem bs_elim (hi : i ∈ s) : bigSep s Φ ⊢ Φ i := bigSep_elim hi
end

/-! ## What every device knows: all cells' invariants, that each is past its start, the levels -/

abbrev Names : Type := Dev nD × Option (Fin 62) → ℕ

def records (K : Names) : sProp 𝕄 :=
  iprop((bigSep Finset.univ fun ck : Dev nD × Option (Fin 62) => cellInv ER (gatherRd X) (K ck) (kcell ck))
    ∗ bigSep Finset.univ fun ck : Dev nD × Option (Fin 62) => reached ER (kcell ck) 0)
instance records_persistent (K : Names) : BI.Persistent (records X K) := by unfold records; infer_instance

@[irreducible] def Lev (F : FTy → Type) [FloatOps F] : sProp (MT nD τ sig Unit (Elt F) ℕ UU ℕ) := levAts L lv
instance Lev_persistent : BI.Persistent (Lev F) := by unfold Lev; infer_instance

def Ctx (K : Names) : sProp 𝕄 := iprop(records X K ∗ Lev F)
instance Ctx_persistent (K : Names) : BI.Persistent (Ctx X K) := by unfold Ctx; infer_instance

theorem inv_bar (K : Names) (c : Dev nD) : Ctx X K ⊢ cellInv ER (gatherRd X) (K (c, none)) (barCell c) := by
  unfold Ctx records
  iintro ⟨⟨HI, -⟩, -⟩
  iapply (bs_elim (Finset.mem_univ ((c, none) : Dev nD × Option (Fin 62))) (Φ := fun ck => cellInv ER (gatherRd X) (K ck) (kcell ck))) $$ HI
theorem inv_gcell (K : Names) (c : Dev nD) (k : Fin 62) : Ctx X K ⊢ cellInv ER (gatherRd X) (K (c, some k)) (gcell c k) := by
  unfold Ctx records
  iintro ⟨⟨HI, -⟩, -⟩
  iapply (bs_elim (Finset.mem_univ ((c, some k) : Dev nD × Option (Fin 62))) (Φ := fun ck => cellInv ER (gatherRd X) (K ck) (kcell ck))) $$ HI
theorem reached_bar (K : Names) (c : Dev nD) : Ctx X K ⊢ reached ER (barCell c) 0 := by
  unfold Ctx records
  iintro ⟨⟨-, HI⟩, -⟩
  iapply (bs_elim (Finset.mem_univ ((c, none) : Dev nD × Option (Fin 62))) (Φ := fun ck => (reached ER (kcell ck) 0 : sProp 𝕄))) $$ HI
theorem reached_gcell (K : Names) (c : Dev nD) (k : Fin 62) : Ctx X K ⊢ reached ER (gcell c k) 0 := by
  unfold Ctx records
  iintro ⟨⟨-, HI⟩, -⟩
  iapply (bs_elim (Finset.mem_univ ((c, some k) : Dev nD × Option (Fin 62))) (Φ := fun ck => (reached ER (kcell ck) 0 : sProp 𝕄))) $$ HI
theorem ctx_lev (K : Names) : Ctx X K ⊢ Lev F := by
  unfold Ctx
  iintro ⟨-, H⟩
  iexact H

/-! ## The state -/

/-- The copies that can be issued: not yet issued, their chunk at hand. -/
def ready (P W : Finset T) : Finset T := P.filter fun j => ∀ i ∈ W, par j ≠ some i
/-- The chunks at hand when the landings `W` are still to come. -/
def atHand (W : Finset T) (c : Dev nD) : Finset (Dev nD) := Finset.univ \ W.image fun j => arr j c

/-- What copy `j` needs apart from its chunk: its two duties' tokens and the rows it fills. -/
def fare (j : T) (c : Dev nD) : sProp 𝕄 :=
  iprop(dutyTok ER (sCell j c) 0 0 ∗ dutyTok ER (rCell j (tgt j c)) 0 0 ∗ ∃ f, pts (tgt j c) {chunk j c} fullShare f)

/-- The copies `P` to be issued, the landings `W` to be waited for, the departures `B` to be waited for. -/
def St (c : Dev nD) (P W B : Finset T) : sProp 𝕄 :=
  iprop((∃ V, owes (c : Thread nD τ) (owe c ∅ P) V)
    ∗ (bigSep P fun j => fare j c)
    ∗ (bigSep (ready P W) fun j => pts c {chunk j c} (shJ j) X)
    ∗ (bigSep (B \ P) fun j => cred (tallyAt (sCell j c) () N))
    ∗ (bigSep B fun j => atPos ER (sCell j c) 0 ∅ 0)
    ∗ (bigSep Bᶜ fun j => iprop(atPos ER (sCell j c) 1 ∅ 0 ∗ pts c {chunk j c} (shJ j) X))
    ∗ (bigSep W fun j => iprop(cred (tallyAt (rCell j c) () N) ∗ atPos ER (rCell j c) 0 ∅ 0))
    ∗ (bigSep Wᶜ fun j => iprop(atPos ER (rCell j c) 1 ∅ 0 ∗ pts c {arr j c} (shR (some j)) X))
    ∗ pts c (atHand W c) shK X)

/-- Before the barrier: the signals `S` to be given, each with the rows it hands over. -/
def Pre (c : Dev nD) (S : Finset (Fin 5)) : sProp 𝕄 :=
  iprop((∃ V, owes (c : Thread nD τ) (owe c S Finset.univ) V)
    ∗ bigSep S fun s => iprop(dutyTok ER (barCell (hand s c)) 0 s ∗ barPay s (hand s c)))

/-! ## Contents -/

omit [FloatOps F] in
theorem chunk_set {off : Fin 2 → Nat} {h} {q : Dev nD} (e : off = at32 q) : (chunkM off h).view.set = rowsOf {q} := by
  subst e
  exact (View.set_slice_whole cc0_scratch0 (rect q)).trans (rect_set q)

omit [FloatOps F] in
/-- A chunk written with what the same rows of `X` hold, holds `X` there. -/
theorem landed {off : Fin 2 → Nat} {h h'} {i : cc0_scratch0.ty.Idx} (hi : i ∈ (chunkM off h).view.set) (fd : cc0_scratch0.ty.Contents (Elt F)) :
    (chunkM off h).view.write (Elt F) fd ((chunkM off h').view.read (Elt F) X) Finset.univ i = X i := by
  obtain ⟨x, -, rfl⟩ := Finset.mem_map.mp hi
  rw [View.write_emb_of_mem _ _ (Finset.mem_univ _), View.read_apply]
  rfl

/-! ## The effects -/

variable (K : Names) (c : Dev nD) {α : Type} {Q : α → sProp (MT nD τ sig Unit (Elt F) ℕ UU ℕ)} {R : sProp (MT nD τ sig Unit (Elt F) ℕ UU ℕ)}

/-- The body's programs, run at device `c`. -/
abbrev run (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem step_signal (s : Fin 5) {S S' : Finset (Fin 5)} {n : Dev nD} {κ : ℤ} {k : PUnit → Prog (TpuEff nD τ sig (Elt F) Λ₀ .tc) α}
    (hn : n = hand s c) (hs : s ∈ S) (hS' : S' = S.erase s) (hκ : κ = ((1 : ℕ) : ℤ))
    (h : iprop(Ctx X K ∗ Pre c S' ∗ R) ⊢ run c (k ⟨⟩) Q) :
    iprop(Ctx X K ∗ Pre c S ∗ R) ⊢ run c (.op (.semSignal (n : Thread nD τ) barS κ) k) Q := by
  subst hn hS' hκ
  unfold Pre
  rw [bs_erase hs]
  iintro ⟨#HC, ⟨⟨%V, HO⟩, ⟨Htok, Hpay⟩, Hrest⟩, HR⟩
  iapply (Rounds.wp_signal 𝒱₀ ER (gatherRd X) (c : Thread nD τ) none (dst := (hand s c : Thread nD τ)) (κ := K (hand s c, none))
      (d := s) (by rw [duties_bar]; exact Finset.mem_univ _) (amount_bar X (hand s c) s) () (owe c (S.erase s) Finset.univ)
      (owe_signal c Finset.univ hs)) $$ [HO Htok Hpay]
  · isplitr; · iapply (inv_bar X K (hand s c)) $$ HC
    isplitl [HO]; · iexact HO
    isplitl [Htok]; · iexact Htok
    isplitl [Hpay]; · rw [payload_bar]; iexact Hpay
    iapply (reached_bar X K (hand s c)) $$ HC
  iintro HO
  iapply h
  isplitr; · iexact HC
  unfold Pre
  isplitr [HR]
  · isplitl [HO]; · iexists V; iexact HO
    iexact Hrest
  iexact HR

/-- A wait below the level of every copy still to be issued is allowed. -/
theorem ctx_may (sm : SemLoc sig) {P : Finset T} (h : ∀ j ∈ P, lv ((c : Thread nD τ), sm) () < lvl j) :
    Ctx X K ⊢ MayWait (c : Thread nD τ) sm () (owe c ∅ P) := by
  have e : ∀ s ∈ (∅ : Finset (Fin 5)), lv ((c : Thread nD τ), sm) () < 1 := fun s hs => absurd hs (Finset.notMem_empty s)
  refine BI.Entails.trans (ctx_lev X K) ?_
  unfold Lev
  exact mayWait c sm e h

/-- The wait for the five neighbours: the rows they hand over. -/
theorem step_barrier {κ : ℤ} {k : PUnit → Prog (TpuEff nD τ sig (Elt F) Λ₀ .tc) α} (hκ : κ = ((5 : ℕ) : ℤ))
    (h : iprop(Ctx X K ∗ ((∃ V, owes (c : Thread nD τ) (owe c ∅ Finset.univ) V) ∗ atPos ER (barCell c) 1 ∅ 0
        ∗ bigSep Finset.univ fun j : T => iprop(∃ f, pts (tgt j c) {chunk j c} fullShare f)) ∗ R) ⊢ run c (k ⟨⟩) Q) :
    iprop(Ctx X K ∗ (Pre c ∅ ∗ cred (tallyAt (barCell c) () 5) ∗ atPos ER (barCell c) 0 ∅ 0) ∗ R)
      ⊢ run c (.op (.semWait barS κ) k) Q := by
  subst hκ
  have hb : ∀ j ∈ (Finset.univ : Finset T), lv (barCell c) () < lvl j := fun j _ => by
    rw [lv_bar]
    exact lvl_pos j
  unfold Pre
  iintro ⟨#HC, ⟨⟨⟨%V, HO⟩, -⟩, Hcr, Hat⟩, HR⟩
  iapply (Rounds.wp_wait_rest_token 𝒱₀ ER (gatherRd X) (c : Thread nD τ) none (κ := K (c, none))
      (wpE_semWait_eq 𝒱₀ (c : Thread nD τ) none Set.univ) (Set.mem_univ _) () (O := owe c ∅ Finset.univ) (W := V) (R := 0) (m := 0) (T := ∅)
      (by rw [expect_bar])) $$ [Hcr HO Hat]
  · isplitr; · iapply (inv_bar X K c) $$ HC
    isplitl [Hcr]; · iexact Hcr
    isplitl [HO]; · iexact HO
    isplitr
    · iapply (ctx_may X K c (.reg barS) (P := Finset.univ) hb) $$ HC
    iexact Hat
  iintro ⟨HO, Hat, -, Hpay⟩
  ihave Hp := (Entails.of_eq (rest_bar X c)) $$ Hpay
  iapply h
  isplitr; · iexact HC
  isplitr [HR]
  · isplitl [HO]; · iexists (insert (SemLoc.reg barS, ()) V); iexact HO
    isplitl [Hat] <;> iassumption
  iexact HR

theorem step_send (j : T) {P P' W B : Finset T} {n : Dev nD} {off : Fin 2 → Nat} {hoff hoff'} {sS sR : DmaSem sig} {hsc}
    {hsrc : (chunkM off hoff).view.WordExact} {hdst : (chunkM off hoff').view.WordExact}
    {hsem : DmaTarget.Typed .vmem (.dma sR) (.remote (Dev.tc n : Thread nD τ) (chunkM off hoff') (.dma sS) hsc)}
    {k : PUnit → Prog (TpuEff nD τ sig (Elt F) Λ₀ .tc) α}
    (hn : n = tgt j c) (ho : off = at32 (chunk j c)) (hS : sS = ksem (sIx j)) (hR : sR = ksem (rIx j))
    (hj : j ∈ ready P W) (hP : P' = P.erase j) (hB : j ∈ B)
    (h : iprop(Ctx X K ∗ St X c P' W B ∗ R) ⊢ run c (k ⟨⟩) Q) :
    iprop(Ctx X K ∗ St X c P W B ∗ R)
      ⊢ run c (.op (.enqueueDma (chunkM off hoff) (.remote (Dev.tc n : Thread nD τ) (chunkM off hoff') (.dma sS) hsc) (.dma sR) hsrc hdst hsem) k) Q := by
  subst hn hS hR hP
  have hjP : j ∈ P := (Finset.mem_filter.mp hj).1
  have e1 : ready (P.erase j) W = (ready P W).erase j := by unfold ready; exact Finset.filter_erase _ _ _
  have e2 : B \ P.erase j = insert j (B \ P) := Finset.sdiff_erase hB
  unfold St
  rw [bs_erase hj, bs_erase hjP]
  iintro ⟨#HC, ⟨⟨%V, HO⟩, ⟨Hf, Hfs⟩, ⟨Hsrc, Hsrcs⟩, Hcr, Hat, Hbk, Hw, Hgot, Hk⟩, HR⟩
  unfold fare
  icases Hf with ⟨Hts, Htr, ⟨%fd, Hdst⟩⟩
  iapply (Rounds.wp_send_pointsTo 𝒱₀ ER (gatherRd X) (c : Thread nD τ) none (c' := (tgt j c : Thread nD τ)) (src := chunkM off hoff) (dst := chunkM off hoff')
      (κ₁ := K (c, some (sIx j))) (κ₂ := K (tgt j c, some (rIx j)))
      (r₁ := 0) (r₂ := 0) (d₁ := 0) (d₂ := 0) (q := shJ j) (fs := X) (fd := fd)
      (by rw [duties_gcell]; exact Finset.mem_singleton_self _) (by rw [duties_gcell]; exact Finset.mem_singleton_self _)
      () () N rfl (amount_gcell X c (sIx j) 0) (amount_gcell X (tgt j c) (rIx j) 0) (owe c ∅ (P.erase j)) (owe_send c ∅ hjP) (W := V)
      (by rw [payload_gcell, slotPay_s, chunk_set ho]; exact BI.Entails.refl _)
      (by
        rw [payload_gcell, slotPay_r]
        unfold recvPay pts
        rw [arr_tgt, ← chunk_set (h := hoff') ho]
        exact Entails.of_eq (pointsTo_congr fun i hi => landed X hi fd))) $$ [Hsrc Hdst HO Hts Htr]
  · isplitr; · iapply (inv_gcell X K c (sIx j)) $$ HC
    isplitr; · iapply (inv_gcell X K (tgt j c) (rIx j)) $$ HC
    isplitl [Hsrc]; · rw [chunk_set ho]; unfold pts; iexact Hsrc
    isplitl [Hdst]; · rw [chunk_set ho]; unfold pts; iexact Hdst
    isplitl [HO]; · iexact HO
    isplitl [Hts]; · iexact Hts
    isplitr; · iapply (reached_gcell X K c (sIx j)) $$ HC
    isplitl [Htr]; · iexact Htr
    iapply (reached_gcell X K (tgt j c) (rIx j)) $$ HC
  iintro ⟨Hc, HO⟩
  iapply h
  isplitr; · iexact HC
  isplitr [HR]
  · unfold St
    rw [e1, e2, bs_insert (fun hh => (Finset.mem_sdiff.mp hh).2 hjP)]
    isplitl [HO]; · iexists V; iexact HO
    isplitl [Hfs]; · iexact Hfs
    isplitl [Hsrcs]; · iexact Hsrcs
    isplitl [Hc Hcr]
    · isplitl [Hc] <;> iassumption
    isplitl [Hat]; · iexact Hat
    isplitl [Hbk]; · iexact Hbk
    isplitl [Hw]; · iexact Hw
    isplitl [Hgot] <;> iassumption
  iexact HR

theorem arr_inj (c : Dev nD) {i i' : T} (h : arr i c = arr i' c) : i = i' :=
  Option.some.inj (chunkOf_injective c (show chunkOf (some i) c = chunkOf (some i') c from h))

theorem atHand_erase {W : Finset T} {i : T} (hi : i ∈ W) (c : Dev nD) :
    atHand (W.erase i) c = atHand W c ∪ {arr i c} ∧ Disjoint (atHand W c) {arr i c} := by
  constructor
  · unfold atHand
    ext q
    simp only [Finset.mem_sdiff, Finset.mem_univ, true_and, Finset.mem_union, Finset.mem_singleton, Finset.mem_image, Finset.mem_erase, not_exists, not_and]
    constructor
    · intro h
      by_cases hq : q = arr i c
      · exact .inr hq
      · exact .inl fun x hx hxq => h x ⟨fun e => hq (by rw [← hxq, e]), hx⟩ hxq
    · rintro (h | rfl) x ⟨hne, hx⟩ hxq
      · exact h x hx hxq
      · exact hne (arr_inj c hxq)
  · rw [Finset.disjoint_singleton_right]
    unfold atHand
    rw [Finset.mem_sdiff]
    exact fun h => h.2 (Finset.mem_image_of_mem (fun j => arr j c) hi)

theorem ready_erase {P W : Finset T} {i : T} (hi : i ∈ W) (hk : kids (some i) ⊆ P) :
    ready P (W.erase i) = kids (some i) ∪ ready P W ∧ Disjoint (kids (some i)) (ready P W) := by
  unfold ready kids at *
  constructor
  · ext j
    simp only [Finset.mem_union, Finset.mem_filter, Finset.mem_univ, true_and, Finset.mem_erase]
    constructor
    · rintro ⟨hj, h⟩
      by_cases e : par j = some i
      · exact .inl e
      · refine .inr ⟨hj, fun x hx hxj => ?_⟩
        by_cases hxi : x = i
        · exact e (hxi ▸ hxj)
        · exact h x ⟨hxi, hx⟩ hxj
    · rintro (e | ⟨hj, h⟩)
      · exact ⟨hk (Finset.mem_filter.mpr ⟨Finset.mem_univ _, e⟩), fun x hx hxj => hx.1 (Option.some.inj (hxj.symm.trans e))⟩
      · exact ⟨hj, fun x hx => h x hx.2⟩
  · rw [Finset.disjoint_left]
    intro j hj hj'
    exact (Finset.mem_filter.mp hj').2 i hi (Finset.mem_filter.mp hj).2

/-- The wait for landing `i`: the chunk, dealt to the loads and the copies that send it on. -/
theorem step_landing (i : T) {P W W' B : Finset T} {off off' : Fin 2 → Nat} {hoff hoff'} {sR : DmaSem sig}
    {hsrc : (chunkM off hoff).view.WordExact} {hdst : (chunkM off' hoff').view.WordExact}
    {k : PUnit → Prog (TpuEff nD τ sig (Elt F) Λ₀ .tc) α}
    (hR : sR = ksem (rIx i)) (hi : i ∈ W) (hW : W' = W.erase i) (hk : kids (some i) ⊆ P) (hl : ∀ j ∈ P, lvl i < lvl j)
    (h : iprop(Ctx X K ∗ St X c P W' B ∗ R) ⊢ run c (k ⟨⟩) Q) :
    iprop(Ctx X K ∗ St X c P W B ∗ R) ⊢ run c (.op (.waitDma2 sR (chunkM off hoff) (chunkM off' hoff') hsrc hdst) k) Q := by
  subst hR hW
  have hb : ∀ j ∈ P, lv (rCell i c) () < lvl j := fun j hj => by
    rw [lv_r]
    exact hl j hj
  unfold St
  rw [bs_erase hi]
  iintro ⟨#HC, ⟨⟨%V, HO⟩, Hfs, Hsrcs, Hcr, Hat, Hbk, ⟨⟨Hcw, Haw⟩, Hw⟩, Hgot, Hk⟩, HR⟩
  iapply (Rounds.wp_wait_rest_token 𝒱₀ ER (gatherRd X) (c : Thread nD τ) none (κ := K (c, some (rIx i)))
      (wpE_waitDma2_eq 𝒱₀ (c : Thread nD τ) none Set.univ) (Set.mem_univ _) () (O := owe c ∅ P) (W := V) (R := 0) (m := 0) (T := ∅)
      (by rw [Nat.zero_add, expect_gcell])) $$ [Hcw HO Haw]
  · isplitr; · iapply (inv_gcell X K c (rIx i)) $$ HC
    isplitl [Hcw]; · iexact Hcw
    isplitl [HO]; · iexact HO
    isplitr
    · iapply (ctx_may X K c (osem (rIx i)) (P := P) hb) $$ HC
    iexact Haw
  iintro ⟨HO, Haw, -, Hpay⟩
  ihave Hp := (Entails.of_eq ((rest_gcell X c (rIx i)).trans ((slotPay_r X i c).trans (show recvPay X i c = _ from pts_deal c (arr i c) (some i) X)))) $$ Hpay
  icases Hp with ⟨HpK, HpR, HpJ⟩
  iapply h
  isplitr; · iexact HC
  isplitr [HR]
  · unfold St
    rw [(ready_erase hi hk).1, bs_union (ready_erase hi hk).2, (atHand_erase hi c).1, pts_union c (atHand_erase hi c).2,
      show (W.erase i)ᶜ = insert i Wᶜ from by ext x; simp only [Finset.mem_compl, Finset.mem_erase, Finset.mem_insert]; tauto,
      bs_insert (fun hh => (Finset.mem_compl.mp hh) hi)]
    isplitl [HO]; · iexists _; iexact HO
    isplitl [Hfs]; · iexact Hfs
    isplitl [Hsrcs HpJ]
    · isplitl [HpJ]
      · iapply (Entails.of_eq (bigSep_congr (s := kids (some i)) fun j hj => by
          rw [← chunkOf_par j c, (Finset.mem_filter.mp hj).2]; rfl)) $$ HpJ
      iexact Hsrcs
    isplitl [Hcr]; · iexact Hcr
    isplitl [Hat]; · iexact Hat
    isplitl [Hbk]; · iexact Hbk
    isplitl [Hw]; · iexact Hw
    isplitl [Hgot Haw HpR]
    · isplitr [Hgot]
      · isplitl [Haw] <;> iassumption
      iexact Hgot
    isplitl [Hk] <;> iassumption
  iexact HR

/-- The wait for copy `j`'s departure: the piece it was lent. -/
theorem step_departure (j : T) {P W B B' : Finset T} {off off' : Fin 2 → Nat} {hoff hoff'} {sS : DmaSem sig}
    {hsrc : (chunkM off hoff).view.WordExact} {hdst : (chunkM off' hoff').view.WordExact}
    {k : PUnit → Prog (TpuEff nD τ sig (Elt F) Λ₀ .tc) α}
    (hS : sS = ksem (sIx j)) (hj : j ∈ B) (hP : j ∉ P) (hB : B' = B.erase j)
    (h : iprop(Ctx X K ∗ St X c P W B' ∗ R) ⊢ run c (k ⟨⟩) Q) :
    iprop(Ctx X K ∗ St X c P W B ∗ R) ⊢ run c (.op (.waitDma2 sS (chunkM off hoff) (chunkM off' hoff') hsrc hdst) k) Q := by
  subst hS hB
  have hb : ∀ j' ∈ P, lv (sCell j c) () < lvl j' := fun j' _ => by
    rw [lv_s]
    exact lt_of_lt_of_le Nat.zero_lt_two (lvl_pos j')
  unfold St
  rw [bs_erase (Finset.mem_sdiff.mpr ⟨hj, hP⟩), bs_erase hj]
  iintro ⟨#HC, ⟨⟨%V, HO⟩, Hfs, Hsrcs, ⟨Hc, Hcr⟩, ⟨Ha, Hat⟩, Hbk, Hw, Hgot, Hk⟩, HR⟩
  iapply (Rounds.wp_wait_rest_token 𝒱₀ ER (gatherRd X) (c : Thread nD τ) none (κ := K (c, some (sIx j)))
      (wpE_waitDma2_eq 𝒱₀ (c : Thread nD τ) none Set.univ) (Set.mem_univ _) () (O := owe c ∅ P) (W := V) (R := 0) (m := 0) (T := ∅)
      (by rw [Nat.zero_add, expect_gcell])) $$ [Hc HO Ha]
  · isplitr; · iapply (inv_gcell X K c (sIx j)) $$ HC
    isplitl [Hc]; · iexact Hc
    isplitl [HO]; · iexact HO
    isplitr
    · iapply (ctx_may X K c (osem (sIx j)) (P := P) hb) $$ HC
    iexact Ha
  iintro ⟨HO, Ha, -, Hpay⟩
  ihave Hp := (Entails.of_eq ((rest_gcell X c (sIx j)).trans (slotPay_s X j c))) $$ Hpay
  iapply h
  isplitr; · iexact HC
  isplitr [HR]
  · unfold St
    rw [Finset.erase_sdiff_comm, show (B.erase j)ᶜ = insert j Bᶜ from by ext x; simp only [Finset.mem_compl, Finset.mem_erase, Finset.mem_insert]; tauto,
      bs_insert (fun hh => (Finset.mem_compl.mp hh) hj)]
    isplitl [HO]; · iexists _; iexact HO
    isplitl [Hfs]; · iexact Hfs
    isplitl [Hsrcs]; · iexact Hsrcs
    isplitl [Hcr]; · iexact Hcr
    isplitl [Hat]; · iexact Hat
    isplitl [Hbk Ha Hp]
    · isplitr [Hbk]
      · isplitl [Ha]; · iexact Ha
        unfold sendPay; iexact Hp
      iexact Hbk
    isplitl [Hw]; · iexact Hw
    isplitl [Hgot] <;> iassumption
  iexact HR

end Cert.Gather

end
-- ==== Proof.Layers.lean ====
/-
The effects on the arrays other than the copies: a device's own chunk put into its gathered array, and each layer of the gathered array multiplied with the device's columns. And how the state of Steps.lean begins and ends.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : cc0_scratch0.ty.Contents (Elt F)) (K : Names) (c : Dev nD)

/-! ## Layers -/

/-- The rows of layer `l`, and what the body leaves in the output: per layer, the product of its rows with the columns `w`. -/
def layer (l : Fin 4) : Vec F S256x1024 .bf16 := fun x =>
  X (ValueIdx.ix2 (⟨256 * l.val + (x 0).val, by have h : (x 0).val < 256 := (x 0).isLt; omega⟩ : Fin 1024) (x 1))
def layOf' (i : cc0_stg2_0.ty.Idx) : Fin 4 := ⟨(i 0).val / 256, by have h : (i 0).val < 1024 := (i 0).isLt; omega⟩
def inLay (i : cc0_stg2_0.ty.Idx) : S256x32.Idx := ValueIdx.ix2 (⟨(i 0).val % 256, Nat.mod_lt _ (by decide)⟩ : Fin 256) (i 1)
def outC (w : FVec F S1024x32 .bf16) : cc0_stg2_0.ty.Contents (Elt F) := fun i =>
  k0_pay3 w (layer X (layOf' i)) (inLay i)

/-- The layer of step `dz` at device `c`. -/
def layAt (c : Dev nD) (dz : ℕ) : Fin 4 := ⟨(c.val / 8 + 4 - dz) % 4, Nat.mod_lt _ (by decide)⟩

abbrev outM : Memref sig .tc .vmem S1024x32 .f32 := Memref.whole cc0_stg2_0

/-- The output after `n` layers. -/
def Out (w : FVec F S1024x32 .bf16) (n : ℕ) : sProp 𝕄 :=
  iprop(∃ f : cc0_stg2_0.ty.Contents (Elt F), ⌜∀ i, (∃ dz < n, layOf' i = layAt c dz) → f i = outC X w i⌝
    ∗ ((c : Thread nD τ).loc cc0_stg2_0 ↦{fullShare} f))

theorem layer_read {off : Fin 2 → ℕ} (h : ∀ a, off a + S256x1024.size a ≤ S1024x1024.size a) (l : Fin 4) (ho : off = ![256 * l.val, 0]) :
    (gM.access (Rect.unit (s := S1024x1024) off S256x1024.size h)).read (Elt F) X = layer X l := by
  subst ho
  funext x
  show X _ = X _
  congr 1
  funext a
  refine Fin.ext ?_
  match a with
  | ⟨0, _⟩ => show 256 * l.val + 1 * (x 0).val = 256 * l.val + (x 0).val; omega
  | ⟨1, _⟩ => show 0 + 1 * (x 1).val = (x 1).val; omega

theorem layer_sub {off : Fin 2 → ℕ} (h : ∀ a, off a + S256x1024.size a ≤ S1024x1024.size a) (l : Fin 4) (ho : off = ![256 * l.val, 0])
    {S : Finset (Dev nD)} (hS : ∀ q : Dev nD, q.val / 8 = l.val → q ∈ S) :
    (gM.access (Rect.unit (s := S1024x1024) off S256x1024.size h)).set ⊆ rowsOf S := by
  subst ho
  intro i hi
  obtain ⟨x, -, rfl⟩ := Finset.mem_map.mp hi
  refine mem_rowsOf.mpr (hS _ ?_)
  have hx : (x 0).val < 256 := (x 0).isLt
  show (256 * l.val + 1 * (x 0).val) / 32 / 8 = l.val
  omega

theorem out_write {off : Fin 2 → ℕ} (h : ∀ a, off a + S256x32.size a ≤ S1024x32.size a) (l : Fin 4) (ho : off = ![256 * l.val, 0])
    (w : FVec F S1024x32 .bf16) (f : cc0_stg2_0.ty.Contents (Elt F)) (i : cc0_stg2_0.ty.Idx) :
    (outM.access (Rect.unit (s := S1024x32) off S256x32.size h)).write (Elt F) f (k0_pay3 w (layer X l)) Finset.univ i
      = if layOf' i = l then outC X w i else f i := by
  subst ho
  by_cases hi : i ∈ (outM.access (Rect.unit (s := S1024x32) ![256 * l.val, 0] S256x32.size h)).setOn Finset.univ
  · obtain ⟨x, -, rfl⟩ := Finset.mem_map.mp hi
    have hx : (x 0).val < 256 := (x 0).isLt
    have e : layOf' ((outM.access (Rect.unit (s := S1024x32) ![256 * l.val, 0] S256x32.size h)).emb x) = l := by
      refine Fin.ext ?_
      show (256 * l.val + 1 * (x 0).val) / 256 = l.val
      omega
    rw [View.write_emb_of_mem _ _ (Finset.mem_univ _), if_pos e]
    unfold outC
    rw [e]
    show k0_pay3 w (layer X l) x = k0_pay3 w (layer X l) _
    congr 1
    funext a
    refine Fin.ext ?_
    match a with
    | ⟨0, _⟩ => show (x 0).val = (256 * l.val + 1 * (x 0).val) % 256; omega
    | ⟨1, _⟩ => show (x 1).val = 0 + 1 * (x 1).val; omega
  · rw [View.write_of_not_mem _ _ _ hi, if_neg]
    intro e
    refine hi (Finset.mem_map.mpr ⟨inLay i, Finset.mem_univ _, ?_⟩)
    have e' : (i 0).val / 256 = l.val := congrArg Fin.val e
    funext a
    refine Fin.ext ?_
    match a with
    | ⟨0, _⟩ => show 256 * l.val + 1 * ((i 0).val % 256) = (i 0).val; omega
    | ⟨1, _⟩ => show 0 + 1 * (i 1).val = (i 1).val; omega

/-! ## Loads of whole arrays, and the device's own chunk -/

omit [FloatOps F] in
theorem read_whole {b : Ref sig .tc} {off : Fin b.ty.shape.rank → ℕ} (h : ∀ a, off a + b.ty.shape.size a ≤ b.ty.shape.size a)
    (ho : ∀ a, off a = 0) (f : b.ty.Contents (Elt F)) :
    ((Memref.whole b).access (Rect.unit (s := b.ty.shape) off b.ty.shape.size h)).read (Elt F) f = f := by
  funext x
  show f _ = f x
  congr 1
  funext a
  refine Fin.ext ?_
  show off a + 1 * (x a).val = (x a).val
  rw [ho a]; omega

theorem own_write (xs : Dev nD → FVec F S32x1024 .bf16) {off : Fin 2 → ℕ} {h : ∀ a, off a + S32x1024.size a ≤ S1024x1024.size a}
    (ho : off = at32 c) (f : cc0_scratch0.ty.Contents (Elt F)) {i : cc0_scratch0.ty.Idx} (hi : i ∈ rowsOf {c}) :
    (gM.access (Rect.unit (s := S1024x1024) off S32x1024.size h)).write (Elt F) f (xs c) Finset.univ i = gath xs i := by
  have hm : i ∈ (gM.access (Rect.unit (s := S1024x1024) off S32x1024.size h)).set := by
    rw [← chunk_set (h := h) ho] at hi; exact hi
  subst ho
  obtain ⟨x, -, rfl⟩ := Finset.mem_map.mp hm
  rw [View.write_emb_of_mem _ _ (Finset.mem_univ _)]
  have hx : (x 0).val < 32 := (x 0).isLt
  unfold gath
  rw [show owner ((gM.access (Rect.unit (s := S1024x1024) (at32 c) S32x1024.size h)).emb x) = c from by
    refine Fin.ext ?_
    show (32 * c.val + 1 * (x 0).val) / 32 = c.val
    omega]
  show xs c x = xs c _
  congr 1
  funext a
  refine Fin.ext ?_
  match a with
  | ⟨0, _⟩ => show (x 0).val = (32 * c.val + 1 * (x 0).val) % 32; omega
  | ⟨1, _⟩ => show (x 1).val = 0 + 1 * (x 1).val; omega

/-! ## The state's beginning and end -/

/-- The tokens of the duties a device pays with its copies, its positions at its own copies' cells, its credits for what lands. -/
def Toks : sProp 𝕄 :=
  iprop((bigSep Finset.univ fun j : T => iprop(dutyTok ER (sCell j c) 0 0 ∗ dutyTok ER (rCell j (tgt j c)) 0 0))
    ∗ (bigSep Finset.univ fun j : T => atPos ER (sCell j c) 0 ∅ 0)
    ∗ bigSep Finset.univ fun j : T => iprop(cred (tallyAt (rCell j c) () N) ∗ atPos ER (rCell j c) 0 ∅ 0))

theorem ready_univ : ready Finset.univ Finset.univ = kids none := by decide +kernel
theorem atHand_univ : ∀ c, atHand Finset.univ c = {c} := by decide +kernel
theorem atHand_empty : ∀ c, atHand ∅ c = Finset.univ := by decide +kernel
theorem ready_empty : ready ∅ ∅ = ∅ := by decide +kernel

theorem fare_intro (j : T) : iprop((dutyTok ER (sCell j c) 0 0 ∗ dutyTok ER (rCell j (tgt j c)) 0 0)
        ∗ ∃ f, pts (F := F) (tgt j c) {chunk j c} fullShare f) ⊢ (fare j c : sProp 𝕄) := by
  unfold fare
  iintro ⟨⟨H1, H2⟩, H3⟩
  isplitl [H1]; · iexact H1
  isplitl [H2] <;> iassumption

theorem fares :
    (bigSep Finset.univ fun j : T => iprop((dutyTok ER (sCell j c) 0 0 ∗ dutyTok ER (rCell j (tgt j c)) 0 0)
        ∗ ∃ f, pts (F := F) (tgt j c) {chunk j c} fullShare f)) ⊢ (bigSep Finset.univ fun j : T => fare j c : sProp 𝕄) :=
  bigSep_mono fun j _ => fare_intro c j

theorem St_intro :
    iprop((∃ V, owes (c : Thread nD τ) (owe c ∅ Finset.univ) V)
        ∗ (bigSep Finset.univ fun j : T => iprop(∃ f, pts (tgt j c) {chunk j c} fullShare f)) ∗ Toks c ∗ pts c {c} fullShare X)
      ⊢ (iprop(St X c Finset.univ Finset.univ Finset.univ ∗ pts c {c} (shR none) X) : sProp 𝕄) := by
  unfold St Toks
  rw [ready_univ, atHand_univ, Finset.sdiff_self, bigSep_empty, Finset.compl_univ, bigSep_empty, bigSep_empty, pts_deal c c none X]
  iintro ⟨HO, Hrows, ⟨Htok, Hs, Hr⟩, HK, HR, HJ⟩
  isplitr [HR]
  · isplitl [HO]; · iexact HO
    isplitl [Hrows Htok]
    · ihave H := (Entails.of_eq (bigSep_sep' Finset.univ (fun j : T => iprop(dutyTok ER (sCell j c) 0 0 ∗ dutyTok ER (rCell j (tgt j c)) 0 0))
        (fun j : T => iprop(∃ f, pts (F := F) (tgt j c) {chunk j c} fullShare f))).symm) $$ [Htok Hrows]
      · isplitl [Htok] <;> iassumption
      iapply (fares c) $$ H
    isplitl [HJ]
    · iapply (Entails.of_eq (bigSep_congr (s := kids none) fun j hj => by
        rw [← chunkOf_par j c, (Finset.mem_filter.mp hj).2]; rfl)) $$ HJ
    isplitr; · iempintro
    isplitl [Hs]; · iexact Hs
    isplitr; · iempintro
    isplitl [Hr]; · iexact Hr
    isplitr; · iempintro
    iexact HK
  iexact HR

omit [FloatOps F] in
/-- A share of the whole gathered array, chunk by chunk. -/
theorem pts_all (q : PosShare TreeShare) (f : cc0_scratch0.ty.Contents (Elt F)) :
    (pts c Finset.univ q f : sProp 𝕄) = bigSep Finset.univ fun i : Option T => pts c {chunkOf i c} q f := by
  unfold pts
  refine Eq.trans ?_ (pointsTo_biUnion (ℓ := (c : Thread nD τ).loc cc0_scratch0) Finset.univ (fun i : Option T => rowsOf {chunkOf i c})
    (fun t _ t' _ hne => rowsOf_disjoint (Finset.disjoint_singleton.mpr fun e => hne (chunkOf_injective c e))))
  congr 1
  ext i
  obtain ⟨t, ht⟩ := chunkOf_surjective c (owner i)
  exact ⟨fun _ => Finset.mem_biUnion.mpr ⟨t, Finset.mem_univ _, mem_rowsOf.mpr (Finset.mem_singleton.mpr ht.symm)⟩,
    fun _ => mem_rowsOf.mpr (Finset.mem_univ _)⟩

/-- All pieces back: the gathered array whole. -/
theorem pts_gather (f : cc0_scratch0.ty.Contents (Elt F)) :
    iprop((bigSep Finset.univ fun j : T => pts c {chunk j c} (shJ j) f) ∗ (bigSep Finset.univ fun i : T => pts c {arr i c} (shR (some i)) f)
        ∗ pts c {c} (shR none) f ∗ pts c Finset.univ shK f)
      ⊢ (pts c Finset.univ fullShare f : sProp 𝕄) := by
  have hu : (Finset.univ : Finset (Option T)) = insert none ((Finset.univ : Finset T).map Function.Embedding.some) := by
    ext x; cases x <;> simp
  have hR : (bigSep Finset.univ fun i : Option T => pts c {chunkOf i c} (shR i) f : sProp 𝕄)
      = iprop(pts c {c} (shR none) f ∗ bigSep Finset.univ fun i : T => pts c {arr i c} (shR (some i)) f) := by
    rw [hu, bs_insert (by simp), bigSep_map]; rfl
  have hJ : (bigSep Finset.univ fun i : Option T => bigSep (kids i) fun j => pts c {chunkOf i c} (shJ j) f : sProp 𝕄)
      = bigSep Finset.univ fun j : T => pts c {chunk j c} (shJ j) f := by
    have h1 : (bigSep Finset.univ fun i : Option T => bigSep (kids i) fun j => pts c {chunkOf i c} (shJ j) f : sProp 𝕄)
        = bigSep Finset.univ fun i : Option T => bigSep (kids i) fun j => pts c {chunk j c} (shJ j) f :=
      bigSep_congr fun i _ => bigSep_congr fun j hj => by rw [← chunkOf_par j c, (Finset.mem_filter.mp hj).2]
    rw [h1]
    refine (BI.bigSep_biUnion_eq Finset.univ (fun i : Option T => kids i)
      (fun j : T => pts c {chunk j c} (shJ j) f) (fun s _ s' _ hne => Finset.disjoint_left.mpr fun j hj hj' =>
        hne ((Finset.mem_filter.mp hj).2.symm.trans (Finset.mem_filter.mp hj').2))).symm.trans ?_
    congr 1
    ext j
    exact ⟨fun _ => Finset.mem_univ _, fun _ => Finset.mem_biUnion.mpr ⟨par j, Finset.mem_univ _, Finset.mem_filter.mpr ⟨Finset.mem_univ _, rfl⟩⟩⟩
  have e : (pts c Finset.univ fullShare f : sProp 𝕄)
      = iprop((bigSep Finset.univ fun i : Option T => pts c {chunkOf i c} shK f) ∗ (bigSep Finset.univ fun i : Option T => pts c {chunkOf i c} (shR i) f)
        ∗ bigSep Finset.univ fun i : Option T => bigSep (kids i) fun j => pts c {chunkOf i c} (shJ j) f) := by
    rw [pts_all c fullShare f, ← bigSep_sep', ← bigSep_sep']
    exact bigSep_congr fun i _ => pts_deal c (chunkOf i c) i f
  rw [e, hJ, hR, ← pts_all]
  iintro ⟨HJ, HR, HN, HK⟩
  isplitl [HK]; · iexact HK
  isplitr [HJ]
  · isplitl [HN] <;> iassumption
  iexact HJ

theorem close_g (k : Fin 62) : iprop(Ctx X K ∗ atPos ER (gcell c k) 1 ∅ 0) ⊢ (|={Set.univ}=> semVal (gcell c k) 0 : sProp 𝕄) := by
  iintro ⟨#HC, Hat⟩
  iapply (Rounds.cell_close ER (gatherRd X) (Set.mem_univ (K (c, some k))) (fun h => h) (R := 0 + 1) (duties_later X (gcell c k)))
  isplitr; · iapply (inv_gcell X K c k) $$ HC
  iexact Hat
theorem close_b : iprop(Ctx X K ∗ atPos ER (barCell c) 1 ∅ 0) ⊢ (|={Set.univ}=> semVal (barCell c) 0 : sProp 𝕄) := by
  iintro ⟨#HC, Hat⟩
  iapply (Rounds.cell_close ER (gatherRd X) (Set.mem_univ (K (c, none))) (fun h => h) (R := 0 + 1) (duties_later X (barCell c)))
  isplitr; · iapply (inv_bar X K c) $$ HC
  iexact Hat

/-- The cells of all copies closed. -/
theorem close_all :
    iprop(Ctx X K ∗ bigSep Finset.univ fun k : Fin 62 => atPos ER (gcell c k) 1 ∅ 0)
      ⊢ (|={Set.univ}=> bigSep Finset.univ fun k : Fin 62 => semVal (gcell c k) 0 : sProp 𝕄) := by
  refine BI.Entails.trans ?_ (bigSep_fupd Finset.univ fun k : Fin 62 => semVal (gcell c k) 0)
  have h : iprop(Ctx X K ∗ bigSep Finset.univ fun k : Fin 62 => atPos ER (gcell c k) 1 ∅ 0)
      ⊢ (bigSep Finset.univ fun k : Fin 62 => iprop(Ctx X K ∗ atPos ER (gcell c k) 1 ∅ 0) : sProp 𝕄) := ?_
  · exact h.trans (bigSep_mono fun (k : Fin 62) _ => close_g X K c k)
  rw [bigSep_sep']
  iintro ⟨#HC, H⟩
  isplitr
  · iapply (bigSep_of_persistent (Finset.univ : Finset (Fin 62)) (Ctx X K)) $$ HC
  iexact H

theorem at_all : iprop((bigSep Finset.univ fun j : T => atPos ER (sCell j c) 1 ∅ 0) ∗ bigSep Finset.univ fun j : T => atPos ER (rCell j c) 1 ∅ 0)
    ⊢ (bigSep Finset.univ fun k : Fin 62 => atPos ER (gcell c k) 1 ∅ 0 : sProp 𝕄) := by
  rw [bigSep_univ_equiv roleEquiv (fun k : Fin 62 => (atPos ER (gcell c k) 1 ∅ 0 : sProp 𝕄)), bigSep_univ_sum]
  exact BI.Entails.refl _

/-- When everything has been issued and waited for. -/
theorem St_exit :
    iprop(Ctx X K ∗ St X c ∅ ∅ ∅ ∗ pts c {c} (shR none) X ∗ atPos ER (barCell c) 1 ∅ 0)
      ⊢ (|={Set.univ}=> iprop((∃ V, owes (c : Thread nD τ) 0 V) ∗ ((c : Thread nD τ).loc cc0_scratch0 ↦{fullShare} X)
          ∗ (bigSep Finset.univ fun k : Fin 62 => semVal (gcell c k) 0) ∗ semVal (barCell c) 0) : sProp 𝕄) := by
  unfold St
  rw [ready_empty, atHand_empty, Finset.sdiff_self, bigSep_empty, bigSep_empty, bigSep_empty, bigSep_empty, Finset.compl_empty,
    bigSep_sep' Finset.univ (fun j : T => (atPos ER (sCell j c) 1 ∅ 0 : sProp 𝕄)), bigSep_sep' Finset.univ (fun j : T => (atPos ER (rCell j c) 1 ∅ 0 : sProp 𝕄)),
    show owe c ∅ ∅ = 0 from by simp [owe]]
  iintro ⟨#HC, ⟨HO, -, -, -, -, ⟨Hs, HJ⟩, -, ⟨Hr, HI⟩, HK⟩, HN, Hb⟩
  imod (close_b X K c) $$ [Hb] with Hb
  · isplitr; · iexact HC
    iexact Hb
  imod (close_all X K c) $$ [Hs Hr] with Hz
  · isplitr; · iexact HC
    iapply (at_all c)
    isplitl [Hs] <;> iassumption
  imodintro
  isplitl [HO]; · iexact HO
  isplitr [Hz Hb]
  · ihave H := (pts_gather c X) $$ [HJ HI HN HK]
    · isplitl [HJ]; · iexact HJ
      isplitl [HI]; · iexact HI
      isplitl [HN] <;> iassumption
    unfold pts
    rw [rowsOf_univ]
    iexact H
  isplitl [Hz] <;> iassumption

/-! ## The effects -/

variable {α : Type} {Q : α → sProp (MT nD τ sig Unit (Elt F) ℕ UU ℕ)} {R : sProp (MT nD τ sig Unit (Elt F) ℕ UU ℕ)}

/-- The device's columns are read. -/
theorem step_cols (w : cc0_stg1_0.ty.Contents (Elt F)) {h hl} {S : sProp (MT nD τ sig Unit (Elt F) ℕ UU ℕ)}
    {k : Vec F S1024x32 .bf16 → Prog (TpuEff nD τ sig (Elt F) Λ₀ .tc) α}
    (hk : iprop(Ctx X K ∗ S ∗ (((c : Thread nD τ).loc cc0_stg1_0 ↦{fullShare} w) ∗ R)) ⊢ run c (k w) Q) :
    iprop(Ctx X K ∗ S ∗ (((c : Thread nD τ).loc cc0_stg1_0 ↦{fullShare} w) ∗ R))
      ⊢ run c (.op (.load (Memref.whole cc0_stg1_0 : Memref sig .tc .vmem S1024x32 .bf16)
          (Rect.unit (s := S1024x32) ![0, 0] S1024x32.size h).toLoadRect hl) k) Q := by
  iintro ⟨HC, HS, Hw, HR⟩
  iapply (wp_load_rect 𝒱₀ (c : Thread nD τ) none Set.univ (m := (Memref.whole cc0_stg1_0 : Memref sig .tc .vmem S1024x32 .bf16))
    (r := Rect.unit (s := S1024x32) ![0, 0] S1024x32.size h) (S := Finset.univ) (q := fullShare) (f := w) (Finset.subset_univ _)) $$ Hw
  iintro Hw
  rw [show ((Memref.whole cc0_stg1_0 : Memref sig .tc .vmem S1024x32 .bf16).access (Rect.unit (s := S1024x32) ![0, 0] S1024x32.size h)).read (Elt F) w = w from
    read_whole (b := cc0_stg1_0) h (fun a => by match a with | ⟨0, _⟩ => rfl | ⟨1, _⟩ => rfl) w]
  iapply hk
  isplitl [HC]; · iexact HC
  isplitl [HS]; · iexact HS
  isplitl [Hw] <;> iassumption

/-- The device's rows are read and put in the gathered array; the chunk is dealt, and the device has all that its copies need. -/
theorem step_own (xs : Dev nD → FVec F S32x1024 .bf16) (x : cc0_stg0_0.ty.Contents (Elt F)) (hx : k0_pay1 x = xs c)
    {off : Fin 2 → ℕ} {h h1 hl hl1 hs hm} {k : PUnit → Prog (TpuEff nD τ sig (Elt F) Λ₀ .tc) α} (ho : off = at32 c)
    (hk : iprop(Ctx (gath xs) K ∗ St (gath xs) c Finset.univ Finset.univ Finset.univ
        ∗ (pts c {c} (shR none) (gath xs) ∗ ((c : Thread nD τ).loc cc0_stg0_0 ↦{fullShare} x) ∗ R)) ⊢ run c (k ⟨⟩) Q) :
    iprop(Ctx (gath xs) K ∗ ((∃ V, owes (c : Thread nD τ) (owe c ∅ Finset.univ) V)
        ∗ (bigSep Finset.univ fun j : T => iprop(∃ f, pts (tgt j c) {chunk j c} fullShare f)) ∗ Toks c ∗ (∃ f, pts c {c} fullShare f))
        ∗ ((c : Thread nD τ).loc cc0_stg0_0 ↦{fullShare} x) ∗ R)
      ⊢ run c (.op (.load (Memref.whole cc0_stg0_0 : Memref sig .tc .vmem S32x1024 .bf16)
          (Rect.unit (s := S32x1024) ![0, 0] S32x1024.size h1).toLoadRect hl1) fun v =>
          .op (.load gM (Rect.unit (s := S1024x1024) off S32x1024.size h).toLoadRect hl) fun _ =>
          .op (.store gM (Rect.unit (s := S1024x1024) off S32x1024.size h) (k0_pay1 v) Finset.univ hs hm) k) Q := by
  have hset : (gM.access (Rect.unit (s := S1024x1024) off S32x1024.size h)).set = rowsOf {c} := chunk_set (h := h) ho
  iintro ⟨HC, ⟨HO, Hrows, Htok, ⟨%f, Hf⟩⟩, Hx, HR⟩
  iapply (wp_load_rect 𝒱₀ (c : Thread nD τ) none Set.univ (m := (Memref.whole cc0_stg0_0 : Memref sig .tc .vmem S32x1024 .bf16))
    (r := Rect.unit (s := S32x1024) ![0, 0] S32x1024.size h1) (S := Finset.univ) (q := fullShare) (f := x) (Finset.subset_univ _)) $$ Hx
  iintro Hx
  rw [show ((Memref.whole cc0_stg0_0 : Memref sig .tc .vmem S32x1024 .bf16).access (Rect.unit (s := S32x1024) ![0, 0] S32x1024.size h1)).read (Elt F) x = x from
    read_whole (b := cc0_stg0_0) h1 (fun a => by match a with | ⟨0, _⟩ => rfl | ⟨1, _⟩ => rfl) x, hx]
  iapply (wp_load_rect 𝒱₀ (c : Thread nD τ) none Set.univ (m := gM) (r := Rect.unit (s := S1024x1024) off S32x1024.size h)
    (S := rowsOf {c}) (q := fullShare) (f := f) (subset_of_eq hset)) $$ [Hf]
  · unfold pts; iexact Hf
  iintro Hf
  iapply (wp_store 𝒱₀ (c : Thread nD τ) none Set.univ (m := gM) (r := Rect.unit (s := S1024x1024) off S32x1024.size h) (Mk := Finset.univ)
    (S := rowsOf {c}) (f := f) (subset_of_eq hset)) $$ Hf
  iintro Hf
  ihave Hf := (Entails.of_eq (show _ = pts c {c} fullShare (gath xs) from pointsTo_congr fun i hi => own_write c xs ho f hi)) $$ Hf
  ihave H := (St_intro (gath xs) c) $$ [HO Hrows Htok Hf]
  · isplitl [HO]; · iexact HO
    isplitl [Hrows]; · iexact Hrows
    isplitl [Htok] <;> iassumption
  icases H with ⟨HS, Hn⟩
  iapply hk
  isplitl [HC]; · iexact HC
  isplitl [HS]; · iexact HS
  isplitl [Hn]; · iexact Hn
  isplitl [Hx] <;> iassumption

/-- One layer: its rows are read, and its product is stored. -/
theorem step_layer (w : FVec F S1024x32 .bf16) (dz : ℕ) {P W B : Finset T} {off off' : Fin 2 → ℕ}
    {hoff : ∀ a, off a + S256x1024.size a ≤ S1024x1024.size a} {hoff' : ∀ a, off' a + S256x32.size a ≤ S1024x32.size a} {hl hl' hx hm}
    {pay : Vec F S256x1024 .bf16 → FVec F S256x32 .f32} {k : PUnit → Prog (TpuEff nD τ sig (Elt F) Λ₀ .tc) α}
    (ho : off = ![256 * (layAt c dz).val, 0]) (ho' : off' = ![256 * (layAt c dz).val, 0])
    (hp : pay = k0_pay3 w) (hW : ∀ q : Dev nD, q.val / 8 = (layAt c dz).val → q ∈ atHand W c)
    (h : iprop(Ctx X K ∗ St X c P W B ∗ (Out X c w (dz + 1) ∗ R)) ⊢ run c (k ⟨⟩) Q) :
    iprop(Ctx X K ∗ St X c P W B ∗ (Out X c w dz ∗ R))
      ⊢ run c (.op (.load gM (Rect.unit (s := S1024x1024) off S256x1024.size hoff).toLoadRect hl) fun v =>
          .op (.load outM (Rect.unit (s := S1024x32) off' S256x32.size hoff').toLoadRect hl') fun _ =>
          .op (.store outM (Rect.unit (s := S1024x32) off' S256x32.size hoff') (pay v) Finset.univ hx hm) k) Q := by
  subst hp
  unfold St
  iintro ⟨#HC, ⟨HO, Hfs, Hsrcs, Hcr, Hat, Hbk, Hw, Hgot, Hk⟩, Hout, HR⟩
  iapply (wp_load_rect 𝒱₀ (c : Thread nD τ) none Set.univ (m := gM) (r := Rect.unit (s := S1024x1024) off S256x1024.size hoff)
    (S := rowsOf (atHand W c)) (q := shK) (f := X) (layer_sub hoff (layAt c dz) ho hW)) $$ [Hk]
  · unfold pts; iexact Hk
  iintro Hk
  rw [layer_read X hoff (layAt c dz) ho]
  unfold Out
  icases Hout with ⟨%f, %hf, Hf⟩
  iapply (wp_load_rect 𝒱₀ (c : Thread nD τ) none Set.univ (m := outM) (r := Rect.unit (s := S1024x32) off' S256x32.size hoff')
    (S := Finset.univ) (q := fullShare) (f := f) (Finset.subset_univ _)) $$ Hf
  iintro Hf
  iapply (wp_store 𝒱₀ (c : Thread nD τ) none Set.univ (m := outM) (r := Rect.unit (s := S1024x32) off' S256x32.size hoff') (Mk := Finset.univ)
    (S := Finset.univ) (f := f) (Finset.subset_univ _)) $$ Hf
  iintro Hf
  iapply h
  isplitr; · iexact HC
  isplitr [Hf HR]
  · unfold St
    isplitl [HO]; · iexact HO
    isplitl [Hfs]; · iexact Hfs
    isplitl [Hsrcs]; · iexact Hsrcs
    isplitl [Hcr]; · iexact Hcr
    isplitl [Hat]; · iexact Hat
    isplitl [Hbk]; · iexact Hbk
    isplitl [Hw]; · iexact Hw
    isplitl [Hgot]; · iexact Hgot
    unfold pts; iexact Hk
  isplitl [Hf]
  · unfold Out
    iexists _
    isplitr
    pick_goal 2
    · iexact Hf
    ipureintro
    rintro i ⟨d, hd, hi⟩
    refine (out_write X hoff' (layAt c dz) ho' w f i).trans ?_
    by_cases e : layOf' i = layAt c dz
    · exact if_pos e
    · rw [if_neg e]
      exact hf i ⟨d, by
        rcases Nat.lt_succ_iff_lt_or_eq.mp hd with h | h
        · exact h
        · exact absurd (h ▸ hi) e, hi⟩
  iexact HR

end Cert.Gather

end
-- ==== Proof.Walk.lean ====
/-
The body, part by part in program order: each part carries what the device holds from where it starts to where it ends.
-/
module

public import proofs.«01_k».proof.Proof.Layers

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : cc0_scratch0.ty.Contents (Elt F)) (K : Names) (c : Dev nD)

/-! ## Where the body stands -/

/-- The copies in the order they are issued, the landings in the order they are waited for, the departures likewise. -/
def sendOrd : List T := [0, 1, 2, 3, 19, 7, 22, 11, 25, 15, 28, 4, 20, 8, 23, 12, 26, 16, 29, 5, 21, 9, 24, 13, 27, 17, 30, 6, 10, 14, 18]
def recvOrd : List T := [0, 1, 2, 3, 19, 7, 22, 11, 25, 15, 28, 4, 20, 8, 23, 12, 26, 16, 29, 5, 9, 13, 17, 6, 21, 10, 24, 14, 27, 18, 30]
def backOrd : List T := [0, 1, 2, 3, 4, 5, 6, 7, 8, 9, 10, 11, 12, 13, 14, 15, 16, 17, 18, 19, 20, 21, 22, 23, 24, 25, 26, 27, 28, 29, 30]

/-- What is still to come after so many of each. -/
def sAt (n : ℕ) : Finset T := (sendOrd.drop n).toFinset
def wAt (n : ℕ) : Finset T := (recvOrd.drop n).toFinset
def bAt (n : ℕ) : Finset T := (backOrd.drop n).toFinset

variable {R : sProp (MT nD τ sig Unit (Elt F) ℕ UU ℕ)}

/-- The hands still to be raised. -/
def hAt (n : ℕ) : Finset (Fin 5) := ([0, 1, 2, 3, 4].drop n : List (Fin 5)).toFinset

theorem hAt_zero : hAt 0 = Finset.univ := by decide +kernel
theorem hAt_five : hAt 5 = ∅ := by decide +kernel
theorem sAt_zero : sAt 0 = Finset.univ := by decide +kernel
theorem wAt_zero : wAt 0 = Finset.univ := by decide +kernel
theorem bAt_zero : bAt 0 = Finset.univ := by decide +kernel
theorem sAt_end : sAt 31 = ∅ := by decide +kernel
theorem wAt_end : wAt 31 = ∅ := by decide +kernel
theorem bAt_end : bAt 31 = ∅ := by decide +kernel

/-- When a layer is computed its chunks are at hand. -/
theorem layer_hand0 : ∀ c q : Dev nD, q.val / 8 = (layAt c 0).val → q ∈ atHand (wAt 25) c := by decide +kernel
theorem layer_hand1 : ∀ c q : Dev nD, q.val / 8 = (layAt c 1).val → q ∈ atHand (wAt 27) c := by decide +kernel
theorem layer_hand2 : ∀ c q : Dev nD, q.val / 8 = (layAt c 2).val → q ∈ atHand (wAt 29) c := by decide +kernel
theorem layer_hand3 : ∀ c q : Dev nD, q.val / 8 = (layAt c 3).val → q ∈ atHand (wAt 31) c := by decide +kernel

/-! ## Regrouping -/

theorem re_barrier {A P C D Z : sProp (MT nD τ sig Unit (Elt F) ℕ UU ℕ)} : iprop(A ∗ P ∗ ((C ∗ D) ∗ Z)) ⊢ iprop(A ∗ (P ∗ C ∗ D) ∗ Z) := by
  iintro ⟨HA, HP, ⟨HC, HD⟩, HZ⟩
  isplitl [HA]; · iexact HA
  isplitr [HZ]
  · isplitl [HP]; · iexact HP
    isplitl [HC] <;> iassumption
  iexact HZ
theorem re_own {A O P W T Y S Z : sProp (MT nD τ sig Unit (Elt F) ℕ UU ℕ)} :
    iprop(A ∗ (O ∗ P ∗ W) ∗ (T ∗ Y ∗ S ∗ Z)) ⊢ iprop(A ∗ (O ∗ W ∗ T ∗ Y) ∗ S ∗ (P ∗ Z)) := by
  iintro ⟨HA, ⟨HO, HP, HW⟩, HT, HY, HS, HZ⟩
  isplitl [HA]; · iexact HA
  isplitl [HO HW HT HY]
  · isplitl [HO]; · iexact HO
    isplitl [HW]; · iexact HW
    isplitl [HT] <;> iassumption
  isplitl [HS]; · iexact HS
  isplitl [HP] <;> iassumption
theorem re_cols {A S N G P W Z : sProp (MT nD τ sig Unit (Elt F) ℕ UU ℕ)} :
    iprop(A ∗ S ∗ (N ∗ G ∗ (P ∗ (W ∗ Z)))) ⊢ iprop(A ∗ S ∗ (W ∗ (Z ∗ N ∗ G ∗ P))) := by
  iintro ⟨HA, HS, HN, HG, HP, HW, HZ⟩
  isplitl [HA]; · iexact HA
  isplitl [HS]; · iexact HS
  isplitl [HW]; · iexact HW
  isplitl [HZ]; · iexact HZ
  isplitl [HN]; · iexact HN
  isplitl [HG] <;> iassumption
theorem re_layers {A S W O Z : sProp (MT nD τ sig Unit (Elt F) ℕ UU ℕ)} :
    iprop(A ∗ S ∗ (W ∗ (O ∗ Z))) ⊢ iprop(A ∗ S ∗ (O ∗ (W ∗ Z))) := by
  iintro ⟨HA, HS, HW, HO, HZ⟩
  isplitl [HA]; · iexact HA
  isplitl [HS]; · iexact HS
  isplitl [HO]; · iexact HO
  isplitl [HW] <;> iassumption

theorem run_bind {α β : Type} {A : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)}
    (h : A ⊢ run c p fun a => run c (k a) Q) : A ⊢ run c (p >>= k) Q := by
  unfold run at h ⊢
  rw [wp_bind]
  exact h

/-! ## The parts -/

theorem part1 {Q : (Σ' (d0 : Dev nD) (v2 : BitVec 32) (v3 : BitVec 32) (v4 : BitVec 32) (v20 : BitVec 32) (v21 : BitVec 32) (v22 : BitVec 1) (v23 : BitVec 1) (v24 : BitVec 1) (v25 : BitVec 1) (v26 : BitVec 1) (v27 : BitVec 1) (v28 : BitVec 1) (c5_i32_18 : BitVec 32), BitVec 32) → sProp 𝕄} {A : sProp (MT nD τ sig Unit (Elt F) ℕ UU ℕ)} (h : ∀ r : (Σ' (d0 : Dev nD) (v2 : BitVec 32) (v3 : BitVec 32) (v4 : BitVec 32) (v20 : BitVec 32) (v21 : BitVec 32) (v22 : BitVec 1) (v23 : BitVec 1) (v24 : BitVec 1) (v25 : BitVec 1) (v26 : BitVec 1) (v27 : BitVec 1) (v28 : BitVec 1) (c5_i32_18 : BitVec 32), BitVec 32), r.1 = c → A ⊢ Q r) :
    A ⊢ run c (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6) Q := by
  rw [k0_part1_eq_skeleton]
  unfold k0_part1_skel
  simp only [Prog.lift, Prog.bind_op, Prog.bind_ret, Prog.pure_eq_ret, semSignalWord, semWaitWord, run, wp_deviceId]
  exact (h _ rfl).trans fupd_intro

theorem part2 {Q : (Σ' (v36 : BitVec 32) (v37 : Sems sig S_), BitVec 32) → sProp 𝕄} (v3 : BitVec 32) (v4 : BitVec 32) (v20 : BitVec 32) (v21 : BitVec 32) (v22 : BitVec 1) (v23 : BitVec 1) (v24 : BitVec 1) (v25 : BitVec 1) (v26 : BitVec 1) (v27 : BitVec 1) (v28 : BitVec 1) (c5_i32_18 : BitVec 32) (c6_i32_19 : BitVec 32)
    (h : ∀ r : (Σ' (v36 : BitVec 32) (v37 : Sems sig S_), BitVec 32), r.2.1 = SemArray.scalar (sig.barrier 0 rfl) → iprop(Ctx X K ∗ Pre c (hAt 4) ∗ R) ⊢ Q r) :
    iprop(Ctx X K ∗ Pre c (hAt 0) ∗ R) ⊢ run c (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v3 v4 v20 v21 v22 v23 v24 v25 v26 v27 v28 c5_i32_18 c6_i32_19) Q := by
  rw [k0_part2_eq_skeleton]
  unfold k0_part2_skel
  simp only [Prog.lift, Prog.bind_op, Prog.bind_ret, Prog.pure_eq_ret, semSignalWord, semWaitWord]
  refine step_signal X K c 0 (S' := hAt 1) (dev1 c) (by decide +kernel) (by decide +kernel) rfl ?_
  refine step_signal X K c 1 (S' := hAt 2) (dev2 c) (by decide +kernel) (by decide +kernel) rfl ?_
  refine step_signal X K c 2 (S' := hAt 3) (dev3 c) (by decide +kernel) (by decide +kernel) rfl ?_
  refine step_signal X K c 3 (S' := hAt 4) (dev4 c) (by decide +kernel) (by decide +kernel) rfl ?_
  exact (h _ rfl).trans fupd_intro

theorem part3 (xs : Dev nD → FVec F S32x1024 .bf16) (x : cc0_stg0_0.ty.Contents (Elt F)) (hx : k0_pay1 x = xs c) {Q : (Σ' (v70 : BitVec 32), BitVec 32) → sProp 𝕄} (v2 : BitVec 32) (v3 : BitVec 32) (v4 : BitVec 32)  (v49 : BitVec 32)
    (h : ∀ r, iprop(Ctx (gath xs) K ∗ St (gath xs) c (sAt 1) (wAt 0) (bAt 0)
      ∗ (pts c {c} (shR none) (gath xs) ∗ ((c : Thread nD τ).loc cc0_stg0_0 ↦{fullShare} x) ∗ (atPos ER (barCell c) 1 ∅ 0 ∗ R))) ⊢ Q r) :
    iprop(Ctx (gath xs) K ∗ Pre c (hAt 4) ∗ ((cred (tallyAt (barCell c) () 5) ∗ atPos ER (barCell c) 0 ∅ 0)
        ∗ (Toks c ∗ (∃ f, pts c {c} fullShare f) ∗ ((c : Thread nD τ).loc cc0_stg0_0 ↦{fullShare} x) ∗ R)))
      ⊢ run c (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v2 v3 v4 (SemArray.scalar (sig.barrier 0 rfl)) v49) Q := by
  rw [k0_part3_eq_skeleton]
  unfold k0_part3_skel
  simp only [Prog.lift, Prog.bind_op, Prog.bind_ret, Prog.pure_eq_ret, semSignalWord, semWaitWord]
  refine step_signal (gath xs) K c 4 (S' := ∅) (dev5 c) (by decide +kernel) (by decide +kernel) rfl ?_
  refine re_barrier.trans ?_
  refine step_barrier (gath xs) K c rfl ?_
  refine re_own.trans ?_
  refine step_own K c xs x hx (off_own c) ?_
  conv_lhs => rw [show St (gath xs) c Finset.univ Finset.univ Finset.univ = St (gath xs) c (sAt 0) (wAt 0) (bAt 0) from by rw [sAt_zero, wAt_zero, bAt_zero]]
  refine step_send (gath xs) K c 0 (P' := sAt 1) (dev6 c) (off_0 c) rfl rfl (by decide +kernel) (by decide +kernel) (by decide +kernel) ?_
  exact (h _).trans fupd_intro

theorem part4 {Q : (Σ' (v98 : BitVec 32) (v111 : BitVec 32) (v114 : BitVec 32) (v117 : BitVec 32) (v118 : BitVec 32), BitVec 32) → sProp 𝕄} (v2 : BitVec 32) (v3 : BitVec 32) (v4 : BitVec 32) (v84 : BitVec 32)
    (h : ∀ r, iprop(Ctx X K ∗ St X c (sAt 3) (wAt 0) (bAt 0) ∗ R) ⊢ Q r) :
    iprop(Ctx X K ∗ St X c (sAt 1) (wAt 0) (bAt 0) ∗ R)
      ⊢ run c (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v2 v3 v4 v84) Q := by
  rw [k0_part4_eq_skeleton]
  unfold k0_part4_skel
  simp only [Prog.lift, Prog.bind_op, Prog.bind_ret, Prog.pure_eq_ret, semSignalWord, semWaitWord]
  refine step_send X K c 1 (P' := sAt 2) (dev7 c) (off_1 c) rfl rfl (by decide +kernel) (by decide +kernel) (by decide +kernel) ?_
  refine step_send X K c 2 (P' := sAt 3) (dev8 c) (off_2 c) rfl rfl (by decide +kernel) (by decide +kernel) (by decide +kernel) ?_
  exact (h _).trans fupd_intro

theorem part5 {Q : (Σ' (v120 : BitVec 32) (v134 : BitVec 32) (v135 : BitVec 1) (v147 : BitVec 32), BitVec 32) → sProp 𝕄} (v4 : BitVec 32) (v118 : BitVec 32) (c4_i32_97 : BitVec 32)
    (h : ∀ r, iprop(Ctx X K ∗ St X c (sAt 3) (wAt 0) (bAt 0) ∗ R) ⊢ Q r) :
    iprop(Ctx X K ∗ St X c (sAt 3) (wAt 0) (bAt 0) ∗ R)
      ⊢ run c (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 v4 v118 c4_i32_97) Q := by
  rw [k0_part5_eq_skeleton]
  unfold k0_part5_skel
  simp only [Prog.lift, Prog.bind_op, Prog.bind_ret, Prog.pure_eq_ret, semSignalWord, semWaitWord]
  exact (h _).trans fupd_intro

theorem part6 {Q : (Σ' (v148 : BitVec 32) (v162 : BitVec 32) (v176 : BitVec 32), BitVec 32) → sProp 𝕄} (v134 : BitVec 32) (v135 : BitVec 1) (v147 : BitVec 32) (c1_i32_128 : BitVec 32)
    (h : ∀ r, iprop(Ctx X K ∗ St X c (sAt 3) (wAt 0) (bAt 0) ∗ R) ⊢ Q r) :
    iprop(Ctx X K ∗ St X c (sAt 3) (wAt 0) (bAt 0) ∗ R)
      ⊢ run c (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 v134 v135 v147 c1_i32_128) Q := by
  rw [k0_part6_eq_skeleton]
  unfold k0_part6_skel
  simp only [Prog.lift, Prog.bind_op, Prog.bind_ret, Prog.pure_eq_ret, semSignalWord, semWaitWord]
  exact (h _).trans fupd_intro

theorem part7 {Q : (Σ' (v190 : BitVec 32), BitVec 32) → sProp 𝕄} (v4 : BitVec 32) (v20 : BitVec 32) (v111 : BitVec 32) (v162 : BitVec 32) (c0_i32_159 : BitVec 32)
    (h : ∀ r, iprop(Ctx X K ∗ St X c (sAt 4) (wAt 0) (bAt 0) ∗ R) ⊢ Q r) :
    iprop(Ctx X K ∗ St X c (sAt 3) (wAt 0) (bAt 0) ∗ R)
      ⊢ run c (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v4 v20 v111 v162 c0_i32_159) Q := by
  rw [k0_part7_eq_skeleton]
  unfold k0_part7_skel
  simp only [Prog.lift, Prog.bind_op, Prog.bind_ret, Prog.pure_eq_ret, semSignalWord, semWaitWord]
  refine step_send X K c 3 (P' := sAt 4) (dev9 c) (off_3 c) rfl rfl (by decide +kernel) (by decide +kernel) (by decide +kernel) ?_
  exact (h _).trans fupd_intro

theorem part8 {Q : (PUnit) → sProp 𝕄} (v4 : BitVec 32) (v20 : BitVec 32) (v36 : BitVec 32) (v70 : BitVec 32) (v114 : BitVec 32) (c1_i32_190 : BitVec 32)
    (h : iprop(Ctx X K ∗ St X c (sAt 6) (wAt 1) (bAt 0) ∗ R) ⊢ Q ⟨⟩) :
    iprop(Ctx X K ∗ St X c (sAt 4) (wAt 0) (bAt 0) ∗ R)
      ⊢ run c (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v4 v20 v36 v70 v114 c1_i32_190) Q := by
  rw [k0_part8_eq_skeleton]
  unfold k0_part8_skel
  simp only [Prog.lift, Prog.bind_op, Prog.bind_ret, Prog.pure_eq_ret, semSignalWord, semWaitWord]
  refine step_send X K c 19 (P' := sAt 5) (dev10 c) (off_19 c) rfl rfl (by decide +kernel) (by decide +kernel) (by decide +kernel) ?_
  refine step_landing X K c 0 (W' := wAt 1) rfl (by decide +kernel) (by decide +kernel) (by decide +kernel) (by decide +kernel) ?_
  refine step_send X K c 7 (P' := sAt 6) (dev11 c) (off_7 c) rfl rfl (by decide +kernel) (by decide +kernel) (by decide +kernel) ?_
  exact h.trans fupd_intro

theorem part9 {Q : (PUnit) → sProp 𝕄} (v4 : BitVec 32) (v20 : BitVec 32) (v36 : BitVec 32) (v84 : BitVec 32) (v117 : BitVec 32)
    (h : iprop(Ctx X K ∗ St X c (sAt 8) (wAt 2) (bAt 0) ∗ R) ⊢ Q ⟨⟩) :
    iprop(Ctx X K ∗ St X c (sAt 6) (wAt 1) (bAt 0) ∗ R)
      ⊢ run c (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v4 v20 v36 v84 v117) Q := by
  rw [k0_part9_eq_skeleton]
  unfold k0_part9_skel
  simp only [Prog.lift, Prog.bind_op, Prog.bind_ret, Prog.pure_eq_ret, semSignalWord, semWaitWord]
  refine step_send X K c 22 (P' := sAt 7) (dev12 c) (off_22 c) rfl rfl (by decide +kernel) (by decide +kernel) (by decide +kernel) ?_
  refine step_landing X K c 1 (W' := wAt 2) rfl (by decide +kernel) (by decide +kernel) (by decide +kernel) (by decide +kernel) ?_
  refine step_send X K c 11 (P' := sAt 8) (dev13 c) (off_11 c) rfl rfl (by decide +kernel) (by decide +kernel) (by decide +kernel) ?_
  exact h.trans fupd_intro

theorem part10 {Q : (PUnit) → sProp 𝕄} (v4 : BitVec 32) (v20 : BitVec 32) (v36 : BitVec 32) (v98 : BitVec 32) (v120 : BitVec 32)
    (h : iprop(Ctx X K ∗ St X c (sAt 10) (wAt 3) (bAt 0) ∗ R) ⊢ Q ⟨⟩) :
    iprop(Ctx X K ∗ St X c (sAt 8) (wAt 2) (bAt 0) ∗ R)
      ⊢ run c (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v4 v20 v36 v98 v120) Q := by
  rw [k0_part10_eq_skeleton]
  unfold k0_part10_skel
  simp only [Prog.lift, Prog.bind_op, Prog.bind_ret, Prog.pure_eq_ret, semSignalWord, semWaitWord]
  refine step_send X K c 25 (P' := sAt 9) (dev14 c) (off_25 c) rfl rfl (by decide +kernel) (by decide +kernel) (by decide +kernel) ?_
  refine step_landing X K c 2 (W' := wAt 3) rfl (by decide +kernel) (by decide +kernel) (by decide +kernel) (by decide +kernel) ?_
  refine step_send X K c 15 (P' := sAt 10) (dev15 c) (off_15 c) rfl rfl (by decide +kernel) (by decide +kernel) (by decide +kernel) ?_
  exact h.trans fupd_intro

theorem part11 {Q : (PUnit) → sProp 𝕄} (v20 : BitVec 32) (v36 : BitVec 32) (v111 : BitVec 32) (v134 : BitVec 32) (v148 : BitVec 32)
    (h : iprop(Ctx X K ∗ St X c (sAt 12) (wAt 5) (bAt 0) ∗ R) ⊢ Q ⟨⟩) :
    iprop(Ctx X K ∗ St X c (sAt 10) (wAt 3) (bAt 0) ∗ R)
      ⊢ run c (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v111 v134 v148) Q := by
  rw [k0_part11_eq_skeleton]
  unfold k0_part11_skel
  simp only [Prog.lift, Prog.bind_op, Prog.bind_ret, Prog.pure_eq_ret, semSignalWord, semWaitWord]
  refine step_send X K c 28 (P' := sAt 11) (dev16 c) (off_28 c) rfl rfl (by decide +kernel) (by decide +kernel) (by decide +kernel) ?_
  refine step_landing X K c 3 (W' := wAt 4) rfl (by decide +kernel) (by decide +kernel) (by decide +kernel) (by decide +kernel) ?_
  refine step_send X K c 4 (P' := sAt 12) (dev17 c) (off_4 c) rfl rfl (by decide +kernel) (by decide +kernel) (by decide +kernel) ?_
  refine step_landing X K c 19 (W' := wAt 5) rfl (by decide +kernel) (by decide +kernel) (by decide +kernel) (by decide +kernel) ?_
  exact h.trans fupd_intro

theorem part12 {Q : (BitVec 32) → sProp 𝕄} (v20 : BitVec 32) (v36 : BitVec 32) (v114 : BitVec 32) (v134 : BitVec 32)
    (h : ∀ r, iprop(Ctx X K ∗ St X c (sAt 14) (wAt 6) (bAt 0) ∗ R) ⊢ Q r) :
    iprop(Ctx X K ∗ St X c (sAt 12) (wAt 5) (bAt 0) ∗ R)
      ⊢ run c (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v114 v134) Q := by
  rw [k0_part12_eq_skeleton]
  unfold k0_part12_skel
  simp only [Prog.lift, Prog.bind_op, Prog.bind_ret, Prog.pure_eq_ret, semSignalWord, semWaitWord]
  refine step_send X K c 20 (P' := sAt 13) (dev18 c) (off_20 c) rfl rfl (by decide +kernel) (by decide +kernel) (by decide +kernel) ?_
  refine step_landing X K c 7 (W' := wAt 6) rfl (by decide +kernel) (by decide +kernel) (by decide +kernel) (by decide +kernel) ?_
  refine step_send X K c 8 (P' := sAt 14) (dev19 c) (off_8 c) rfl rfl (by decide +kernel) (by decide +kernel) (by decide +kernel) ?_
  exact (h _).trans fupd_intro

theorem part13 {Q : (PUnit) → sProp 𝕄} (v20 : BitVec 32) (v36 : BitVec 32) (v114 : BitVec 32) (v117 : BitVec 32) (v134 : BitVec 32) (v148 : BitVec 32) (v348 : BitVec 32)
    (h : iprop(Ctx X K ∗ St X c (sAt 15) (wAt 8) (bAt 0) ∗ R) ⊢ Q ⟨⟩) :
    iprop(Ctx X K ∗ St X c (sAt 14) (wAt 6) (bAt 0) ∗ R)
      ⊢ run c (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v114 v117 v134 v148 v348) Q := by
  rw [k0_part13_eq_skeleton]
  unfold k0_part13_skel
  simp only [Prog.lift, Prog.bind_op, Prog.bind_ret, Prog.pure_eq_ret, semSignalWord, semWaitWord]
  refine step_landing X K c 22 (W' := wAt 7) rfl (by decide +kernel) (by decide +kernel) (by decide +kernel) (by decide +kernel) ?_
  refine step_send X K c 23 (P' := sAt 15) (dev20 c) (off_23 c) rfl rfl (by decide +kernel) (by decide +kernel) (by decide +kernel) ?_
  refine step_landing X K c 11 (W' := wAt 8) rfl (by decide +kernel) (by decide +kernel) (by decide +kernel) (by decide +kernel) ?_
  exact h.trans fupd_intro

theorem part14 {Q : (PUnit) → sProp 𝕄} (v20 : BitVec 32) (v36 : BitVec 32) (v117 : BitVec 32) (v148 : BitVec 32)
    (h : iprop(Ctx X K ∗ St X c (sAt 17) (wAt 10) (bAt 0) ∗ R) ⊢ Q ⟨⟩) :
    iprop(Ctx X K ∗ St X c (sAt 15) (wAt 8) (bAt 0) ∗ R)
      ⊢ run c (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v117 v148) Q := by
  rw [k0_part14_eq_skeleton]
  unfold k0_part14_skel
  simp only [Prog.lift, Prog.bind_op, Prog.bind_ret, Prog.pure_eq_ret, semSignalWord, semWaitWord]
  refine step_send X K c 12 (P' := sAt 16) (dev21 c) (off_12 c) rfl rfl (by decide +kernel) (by decide +kernel) (by decide +kernel) ?_
  refine step_landing X K c 25 (W' := wAt 9) rfl (by decide +kernel) (by decide +kernel) (by decide +kernel) (by decide +kernel) ?_
  refine step_send X K c 26 (P' := sAt 17) (dev22 c) (off_26 c) rfl rfl (by decide +kernel) (by decide +kernel) (by decide +kernel) ?_
  refine step_landing X K c 15 (W' := wAt 10) rfl (by decide +kernel) (by decide +kernel) (by decide +kernel) (by decide +kernel) ?_
  exact h.trans fupd_intro

theorem part15 {Q : (PUnit) → sProp 𝕄} (v20 : BitVec 32) (v36 : BitVec 32) (v120 : BitVec 32) (v134 : BitVec 32) (v148 : BitVec 32)
    (h : iprop(Ctx X K ∗ St X c (sAt 19) (wAt 11) (bAt 0) ∗ R) ⊢ Q ⟨⟩) :
    iprop(Ctx X K ∗ St X c (sAt 17) (wAt 10) (bAt 0) ∗ R)
      ⊢ run c (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v120 v134 v148) Q := by
  rw [k0_part15_eq_skeleton]
  unfold k0_part15_skel
  simp only [Prog.lift, Prog.bind_op, Prog.bind_ret, Prog.pure_eq_ret, semSignalWord, semWaitWord]
  refine step_send X K c 16 (P' := sAt 18) (dev23 c) (off_16 c) rfl rfl (by decide +kernel) (by decide +kernel) (by decide +kernel) ?_
  refine step_landing X K c 28 (W' := wAt 11) rfl (by decide +kernel) (by decide +kernel) (by decide +kernel) (by decide +kernel) ?_
  refine step_send X K c 29 (P' := sAt 19) (dev24 c) (off_29 c) rfl rfl (by decide +kernel) (by decide +kernel) (by decide +kernel) ?_
  exact h.trans fupd_intro

theorem part16 {Q : (PUnit) → sProp 𝕄} (v20 : BitVec 32) (v36 : BitVec 32) (v111 : BitVec 32) (v162 : BitVec 32) (v176 : BitVec 32)
    (h : iprop(Ctx X K ∗ St X c (sAt 20) (wAt 13) (bAt 0) ∗ R) ⊢ Q ⟨⟩) :
    iprop(Ctx X K ∗ St X c (sAt 19) (wAt 11) (bAt 0) ∗ R)
      ⊢ run c (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v111 v162 v176) Q := by
  rw [k0_part16_eq_skeleton]
  unfold k0_part16_skel
  simp only [Prog.lift, Prog.bind_op, Prog.bind_ret, Prog.pure_eq_ret, semSignalWord, semWaitWord]
  refine step_landing X K c 4 (W' := wAt 12) rfl (by decide +kernel) (by decide +kernel) (by decide +kernel) (by decide +kernel) ?_
  refine step_send X K c 5 (P' := sAt 20) (dev25 c) (off_5 c) rfl rfl (by decide +kernel) (by decide +kernel) (by decide +kernel) ?_
  refine step_landing X K c 20 (W' := wAt 13) rfl (by decide +kernel) (by decide +kernel) (by decide +kernel) (by decide +kernel) ?_
  exact h.trans fupd_intro

theorem part17 {Q : (PUnit) → sProp 𝕄} (v20 : BitVec 32) (v36 : BitVec 32) (v114 : BitVec 32) (v162 : BitVec 32)
    (h : iprop(Ctx X K ∗ St X c (sAt 22) (wAt 14) (bAt 0) ∗ R) ⊢ Q ⟨⟩) :
    iprop(Ctx X K ∗ St X c (sAt 20) (wAt 13) (bAt 0) ∗ R)
      ⊢ run c (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v114 v162) Q := by
  rw [k0_part17_eq_skeleton]
  unfold k0_part17_skel
  simp only [Prog.lift, Prog.bind_op, Prog.bind_ret, Prog.pure_eq_ret, semSignalWord, semWaitWord]
  refine step_send X K c 21 (P' := sAt 21) (dev26 c) (off_21 c) rfl rfl (by decide +kernel) (by decide +kernel) (by decide +kernel) ?_
  refine step_landing X K c 8 (W' := wAt 14) rfl (by decide +kernel) (by decide +kernel) (by decide +kernel) (by decide +kernel) ?_
  refine step_send X K c 9 (P' := sAt 22) (dev27 c) (off_9 c) rfl rfl (by decide +kernel) (by decide +kernel) (by decide +kernel) ?_
  exact h.trans fupd_intro

theorem part18 {Q : (PUnit) → sProp 𝕄} (v20 : BitVec 32) (v36 : BitVec 32) (v114 : BitVec 32) (v117 : BitVec 32) (v162 : BitVec 32) (v176 : BitVec 32)
    (h : iprop(Ctx X K ∗ St X c (sAt 23) (wAt 16) (bAt 0) ∗ R) ⊢ Q ⟨⟩) :
    iprop(Ctx X K ∗ St X c (sAt 22) (wAt 14) (bAt 0) ∗ R)
      ⊢ run c (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v114 v117 v162 v176) Q := by
  rw [k0_part18_eq_skeleton]
  unfold k0_part18_skel
  simp only [Prog.lift, Prog.bind_op, Prog.bind_ret, Prog.pure_eq_ret, semSignalWord, semWaitWord]
  refine step_landing X K c 23 (W' := wAt 15) rfl (by decide +kernel) (by decide +kernel) (by decide +kernel) (by decide +kernel) ?_
  refine step_send X K c 24 (P' := sAt 23) (dev28 c) (off_24 c) rfl rfl (by decide +kernel) (by decide +kernel) (by decide +kernel) ?_
  refine step_landing X K c 12 (W' := wAt 16) rfl (by decide +kernel) (by decide +kernel) (by decide +kernel) (by decide +kernel) ?_
  exact h.trans fupd_intro

theorem part19 {Q : (Σ' (v542 : BitVec 32), BitVec 32) → sProp 𝕄} (v20 : BitVec 32) (v36 : BitVec 32) (v117 : BitVec 32) (v120 : BitVec 32) (v162 : BitVec 32) (v176 : BitVec 32)
    (h : ∀ r, iprop(Ctx X K ∗ St X c (sAt 25) (wAt 18) (bAt 0) ∗ R) ⊢ Q r) :
    iprop(Ctx X K ∗ St X c (sAt 23) (wAt 16) (bAt 0) ∗ R)
      ⊢ run c (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v117 v120 v162 v176) Q := by
  rw [k0_part19_eq_skeleton]
  unfold k0_part19_skel
  simp only [Prog.lift, Prog.bind_op, Prog.bind_ret, Prog.pure_eq_ret, semSignalWord, semWaitWord]
  refine step_send X K c 13 (P' := sAt 24) (dev29 c) (off_13 c) rfl rfl (by decide +kernel) (by decide +kernel) (by decide +kernel) ?_
  refine step_landing X K c 26 (W' := wAt 17) rfl (by decide +kernel) (by decide +kernel) (by decide +kernel) (by decide +kernel) ?_
  refine step_send X K c 27 (P' := sAt 25) (dev30 c) (off_27 c) rfl rfl (by decide +kernel) (by decide +kernel) (by decide +kernel) ?_
  refine step_landing X K c 16 (W' := wAt 18) rfl (by decide +kernel) (by decide +kernel) (by decide +kernel) (by decide +kernel) ?_
  exact (h _).trans fupd_intro

theorem part20 {Q : (BitVec 32) → sProp 𝕄} (v20 : BitVec 32) (v36 : BitVec 32) (v120 : BitVec 32) (v176 : BitVec 32) (v542 : BitVec 32) (c32_i32_533 : BitVec 32)
    (h : ∀ r, iprop(Ctx X K ∗ St X c (sAt 27) (wAt 19) (bAt 0) ∗ R) ⊢ Q r) :
    iprop(Ctx X K ∗ St X c (sAt 25) (wAt 18) (bAt 0) ∗ R)
      ⊢ run c (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v120 v176 v542 c32_i32_533) Q := by
  rw [k0_part20_eq_skeleton]
  unfold k0_part20_skel
  simp only [Prog.lift, Prog.bind_op, Prog.bind_ret, Prog.pure_eq_ret, semSignalWord, semWaitWord]
  refine step_send X K c 17 (P' := sAt 26) (dev31 c) (off_17 c) rfl rfl (by decide +kernel) (by decide +kernel) (by decide +kernel) ?_
  refine step_landing X K c 29 (W' := wAt 19) rfl (by decide +kernel) (by decide +kernel) (by decide +kernel) (by decide +kernel) ?_
  refine step_send X K c 30 (P' := sAt 27) (dev32 c) (off_30 c) rfl rfl (by decide +kernel) (by decide +kernel) (by decide +kernel) ?_
  exact (h _).trans fupd_intro

theorem part21 {Q : (PUnit) → sProp 𝕄} (v20 : BitVec 32) (v111 : BitVec 32) (v114 : BitVec 32) (v190 : BitVec 32) (c1_i32_564 : BitVec 32)
    (h : iprop(Ctx X K ∗ St X c (sAt 28) (wAt 21) (bAt 0) ∗ R) ⊢ Q ⟨⟩) :
    iprop(Ctx X K ∗ St X c (sAt 27) (wAt 19) (bAt 0) ∗ R)
      ⊢ run c (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v111 v114 v190 c1_i32_564) Q := by
  rw [k0_part21_eq_skeleton]
  unfold k0_part21_skel
  simp only [Prog.lift, Prog.bind_op, Prog.bind_ret, Prog.pure_eq_ret, semSignalWord, semWaitWord]
  refine step_landing X K c 5 (W' := wAt 20) rfl (by decide +kernel) (by decide +kernel) (by decide +kernel) (by decide +kernel) ?_
  refine step_send X K c 6 (P' := sAt 28) (dev33 c) (off_6 c) rfl rfl (by decide +kernel) (by decide +kernel) (by decide +kernel) ?_
  refine step_landing X K c 9 (W' := wAt 21) rfl (by decide +kernel) (by decide +kernel) (by decide +kernel) (by decide +kernel) ?_
  exact h.trans fupd_intro

theorem part22 {Q : (PUnit) → sProp 𝕄} (v20 : BitVec 32) (v117 : BitVec 32) (v190 : BitVec 32)
    (h : iprop(Ctx X K ∗ St X c (sAt 30) (wAt 22) (bAt 0) ∗ R) ⊢ Q ⟨⟩) :
    iprop(Ctx X K ∗ St X c (sAt 28) (wAt 21) (bAt 0) ∗ R)
      ⊢ run c (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v117 v190) Q := by
  rw [k0_part22_eq_skeleton]
  unfold k0_part22_skel
  simp only [Prog.lift, Prog.bind_op, Prog.bind_ret, Prog.pure_eq_ret, semSignalWord, semWaitWord]
  refine step_send X K c 10 (P' := sAt 29) (dev34 c) (off_10 c) rfl rfl (by decide +kernel) (by decide +kernel) (by decide +kernel) ?_
  refine step_landing X K c 13 (W' := wAt 22) rfl (by decide +kernel) (by decide +kernel) (by decide +kernel) (by decide +kernel) ?_
  refine step_send X K c 14 (P' := sAt 30) (dev35 c) (off_14 c) rfl rfl (by decide +kernel) (by decide +kernel) (by decide +kernel) ?_
  exact h.trans fupd_intro

theorem part23 (w : cc0_stg1_0.ty.Contents (Elt F)) {Q : (Σ' (v638 : FVec F S1024x32 .bf16) (v651 : BitVec 32), BitVec 32) → sProp 𝕄} (v20 : BitVec 32) (v36 : BitVec 32) (v111 : BitVec 32) (v120 : BitVec 32) (v190 : BitVec 32)
    (h : ∀ r : (Σ' (v638 : FVec F S1024x32 .bf16) (v651 : BitVec 32), BitVec 32), r.1 = k0_pay2 w → iprop(Ctx X K ∗ St X c (sAt 31) (wAt 25) (bAt 0) ∗ (((c : Thread nD τ).loc cc0_stg1_0 ↦{fullShare} w) ∗ R)) ⊢ Q r) :
    iprop(Ctx X K ∗ St X c (sAt 30) (wAt 22) (bAt 0) ∗ (((c : Thread nD τ).loc cc0_stg1_0 ↦{fullShare} w) ∗ R))
      ⊢ run c (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v111 v120 v190) Q := by
  rw [k0_part23_eq_skeleton]
  unfold k0_part23_skel
  simp only [Prog.lift, Prog.bind_op, Prog.bind_ret, Prog.pure_eq_ret, semSignalWord, semWaitWord]
  refine step_landing X K c 17 (W' := wAt 23) rfl (by decide +kernel) (by decide +kernel) (by decide +kernel) (by decide +kernel) ?_
  refine step_send X K c 18 (P' := sAt 31) (dev36 c) (off_18 c) rfl rfl (by decide +kernel) (by decide +kernel) (by decide +kernel) ?_
  refine step_cols X K c w ?_
  refine step_landing X K c 6 (W' := wAt 24) rfl (by decide +kernel) (by decide +kernel) (by decide +kernel) (by decide +kernel) ?_
  refine step_landing X K c 21 (W' := wAt 25) rfl (by decide +kernel) (by decide +kernel) (by decide +kernel) (by decide +kernel) ?_
  exact (h _ rfl).trans fupd_intro

theorem part24 {Q : PUnit → sProp 𝕄} (v20 : BitVec 32) (v36 : BitVec 32) (v114 : BitVec 32) (v638 : FVec F S1024x32 .bf16) (v651 : BitVec 32) (c32_i32_651 : BitVec 32)
    (h : iprop(Ctx X K ∗ St X c (sAt 31) (wAt 27) (bAt 0) ∗ (Out X c v638 2 ∗ R)) ⊢ Q ⟨⟩) :
    iprop(Ctx X K ∗ St X c (sAt 31) (wAt 25) (bAt 0) ∗ (Out X c v638 0 ∗ R))
      ⊢ run c (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v114 v638 v651 c32_i32_651) Q := by
  rw [k0_part24_eq_skeleton]
  unfold k0_part24_skel
  simp only [Prog.lift, Prog.bind_op, Prog.bind_ret, Prog.pure_eq_ret, semSignalWord, semWaitWord]
  refine step_layer X K c v638 0 (k0_off7_eq c 0) (k0_off8_eq c 0) rfl (layer_hand0 c) ?_
  refine step_landing X K c 10 (W' := wAt 26) rfl (by decide +kernel) (by decide +kernel) (by decide +kernel) (by decide +kernel) ?_
  refine step_landing X K c 24 (W' := wAt 27) rfl (by decide +kernel) (by decide +kernel) (by decide +kernel) (by decide +kernel) ?_
  refine step_layer X K c v638 1 (k0_off7_eq c 1) (k0_off8_eq c 1) rfl (layer_hand1 c) ?_
  exact h.trans fupd_intro

theorem part25 {Q : PUnit → sProp 𝕄} (v20 : BitVec 32) (v36 : BitVec 32) (v117 : BitVec 32) (v638 : FVec F S1024x32 .bf16)
    (h : iprop(Ctx X K ∗ St X c (sAt 31) (wAt 30) (bAt 0) ∗ (Out X c v638 3 ∗ R)) ⊢ Q ⟨⟩) :
    iprop(Ctx X K ∗ St X c (sAt 31) (wAt 27) (bAt 0) ∗ (Out X c v638 2 ∗ R))
      ⊢ run c (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v20 v36 v117 v638) Q := by
  rw [k0_part25_eq_skeleton]
  unfold k0_part25_skel
  simp only [Prog.lift, Prog.bind_op, Prog.bind_ret, Prog.pure_eq_ret, semSignalWord, semWaitWord]
  refine step_landing X K c 14 (W' := wAt 28) rfl (by decide +kernel) (by decide +kernel) (by decide +kernel) (by decide +kernel) ?_
  refine step_landing X K c 27 (W' := wAt 29) rfl (by decide +kernel) (by decide +kernel) (by decide +kernel) (by decide +kernel) ?_
  refine step_layer X K c v638 2 (k0_off7_eq c 2) (k0_off8_eq c 2) rfl (layer_hand2 c) ?_
  refine step_landing X K c 18 (W' := wAt 30) rfl (by decide +kernel) (by decide +kernel) (by decide +kernel) (by decide +kernel) ?_
  exact h.trans fupd_intro

theorem part26 {Q : PUnit → sProp 𝕄} (v36 : BitVec 32) (v120 : BitVec 32) (v638 : FVec F S1024x32 .bf16)
    (h : iprop(Ctx X K ∗ St X c (sAt 31) (wAt 31) (bAt 2) ∗ (Out X c v638 4 ∗ R)) ⊢ Q ⟨⟩) :
    iprop(Ctx X K ∗ St X c (sAt 31) (wAt 30) (bAt 0) ∗ (Out X c v638 3 ∗ R))
      ⊢ run c (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c v36 v120 v638) Q := by
  rw [k0_part26_eq_skeleton]
  unfold k0_part26_skel
  simp only [Prog.lift, Prog.bind_op, Prog.bind_ret, Prog.pure_eq_ret, semSignalWord, semWaitWord]
  refine step_landing X K c 30 (W' := wAt 31) rfl (by decide +kernel) (by decide +kernel) (by decide +kernel) (by decide +kernel) ?_
  refine step_layer X K c v638 3 (k0_off7_eq c 3) (k0_off8_eq c 3) rfl (layer_hand3 c) ?_
  refine step_departure X K c 0 (B' := bAt 1) rfl (by decide +kernel) (by decide +kernel) (by decide +kernel) ?_
  refine step_departure X K c 1 (B' := bAt 2) rfl (by decide +kernel) (by decide +kernel) (by decide +kernel) ?_
  exact h.trans fupd_intro

theorem part27 {Q : (PUnit) → sProp 𝕄}
    (h : iprop(Ctx X K ∗ St X c (sAt 31) (wAt 31) (bAt 7) ∗ R) ⊢ Q ⟨⟩) :
    iprop(Ctx X K ∗ St X c (sAt 31) (wAt 31) (bAt 2) ∗ R)
      ⊢ run c (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c) Q := by
  rw [k0_part27_eq_skeleton]
  unfold k0_part27_skel
  simp only [Prog.lift, Prog.bind_op, Prog.bind_ret, Prog.pure_eq_ret, semSignalWord, semWaitWord]
  refine step_departure X K c 2 (B' := bAt 3) rfl (by decide +kernel) (by decide +kernel) (by decide +kernel) ?_
  refine step_departure X K c 3 (B' := bAt 4) rfl (by decide +kernel) (by decide +kernel) (by decide +kernel) ?_
  refine step_departure X K c 4 (B' := bAt 5) rfl (by decide +kernel) (by decide +kernel) (by decide +kernel) ?_
  refine step_departure X K c 5 (B' := bAt 6) rfl (by decide +kernel) (by decide +kernel) (by decide +kernel) ?_
  refine step_departure X K c 6 (B' := bAt 7) rfl (by decide +kernel) (by decide +kernel) (by decide +kernel) ?_
  exact h.trans fupd_intro

theorem part28 {Q : (PUnit) → sProp 𝕄}
    (h : iprop(Ctx X K ∗ St X c (sAt 31) (wAt 31) (bAt 12) ∗ R) ⊢ Q ⟨⟩) :
    iprop(Ctx X K ∗ St X c (sAt 31) (wAt 31) (bAt 7) ∗ R)
      ⊢ run c (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c) Q := by
  rw [k0_part28_eq_skeleton]
  unfold k0_part28_skel
  simp only [Prog.lift, Prog.bind_op, Prog.bind_ret, Prog.pure_eq_ret, semSignalWord, semWaitWord]
  refine step_departure X K c 7 (B' := bAt 8) rfl (by decide +kernel) (by decide +kernel) (by decide +kernel) ?_
  refine step_departure X K c 8 (B' := bAt 9) rfl (by decide +kernel) (by decide +kernel) (by decide +kernel) ?_
  refine step_departure X K c 9 (B' := bAt 10) rfl (by decide +kernel) (by decide +kernel) (by decide +kernel) ?_
  refine step_departure X K c 10 (B' := bAt 11) rfl (by decide +kernel) (by decide +kernel) (by decide +kernel) ?_
  refine step_departure X K c 11 (B' := bAt 12) rfl (by decide +kernel) (by decide +kernel) (by decide +kernel) ?_
  exact h.trans fupd_intro

theorem part29 {Q : (PUnit) → sProp 𝕄}
    (h : iprop(Ctx X K ∗ St X c (sAt 31) (wAt 31) (bAt 17) ∗ R) ⊢ Q ⟨⟩) :
    iprop(Ctx X K ∗ St X c (sAt 31) (wAt 31) (bAt 12) ∗ R)
      ⊢ run c (k0_part29 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c) Q := by
  rw [k0_part29_eq_skeleton]
  unfold k0_part29_skel
  simp only [Prog.lift, Prog.bind_op, Prog.bind_ret, Prog.pure_eq_ret, semSignalWord, semWaitWord]
  refine step_departure X K c 12 (B' := bAt 13) rfl (by decide +kernel) (by decide +kernel) (by decide +kernel) ?_
  refine step_departure X K c 13 (B' := bAt 14) rfl (by decide +kernel) (by decide +kernel) (by decide +kernel) ?_
  refine step_departure X K c 14 (B' := bAt 15) rfl (by decide +kernel) (by decide +kernel) (by decide +kernel) ?_
  refine step_departure X K c 15 (B' := bAt 16) rfl (by decide +kernel) (by decide +kernel) (by decide +kernel) ?_
  refine step_departure X K c 16 (B' := bAt 17) rfl (by decide +kernel) (by decide +kernel) (by decide +kernel) ?_
  exact h.trans fupd_intro

theorem part30 {Q : (PUnit) → sProp 𝕄}
    (h : iprop(Ctx X K ∗ St X c (sAt 31) (wAt 31) (bAt 22) ∗ R) ⊢ Q ⟨⟩) :
    iprop(Ctx X K ∗ St X c (sAt 31) (wAt 31) (bAt 17) ∗ R)
      ⊢ run c (k0_part30 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c) Q := by
  rw [k0_part30_eq_skeleton]
  unfold k0_part30_skel
  simp only [Prog.lift, Prog.bind_op, Prog.bind_ret, Prog.pure_eq_ret, semSignalWord, semWaitWord]
  refine step_departure X K c 17 (B' := bAt 18) rfl (by decide +kernel) (by decide +kernel) (by decide +kernel) ?_
  refine step_departure X K c 18 (B' := bAt 19) rfl (by decide +kernel) (by decide +kernel) (by decide +kernel) ?_
  refine step_departure X K c 19 (B' := bAt 20) rfl (by decide +kernel) (by decide +kernel) (by decide +kernel) ?_
  refine step_departure X K c 20 (B' := bAt 21) rfl (by decide +kernel) (by decide +kernel) (by decide +kernel) ?_
  refine step_departure X K c 21 (B' := bAt 22) rfl (by decide +kernel) (by decide +kernel) (by decide +kernel) ?_
  exact h.trans fupd_intro

theorem part31 {Q : (PUnit) → sProp 𝕄}
    (h : iprop(Ctx X K ∗ St X c (sAt 31) (wAt 31) (bAt 27) ∗ R) ⊢ Q ⟨⟩) :
    iprop(Ctx X K ∗ St X c (sAt 31) (wAt 31) (bAt 22) ∗ R)
      ⊢ run c (k0_part31 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6 c) Q := by
  rw [k0_part31_eq_skeleton]
  unfold k0_part31_skel
  simp only [Prog.lift, Prog.bind_op, Prog.bind_ret, Prog.pure_eq_ret, semSignalWord, semWaitWord]
  refine step_departure X K c 22 (B' := bAt 23) rfl (by decide +kernel) (by decide +kernel) (by decide +kernel) ?_
  refine step_departure X K c 23 (B' := bAt 24) rfl (by decide +kernel) (by decide +kernel) (by decide +kernel) ?_
  refine step_departure X K c 24 (B' := bAt 25) rfl (by decide +kernel) (by decide +kernel) (by decide +kernel) ?_
  refine step_departure X K c 25 (B' := bAt 26) rfl (by decide +kernel) (by decide +kernel) (by decide +kernel) ?_
  refine step_departure X K c 26 (B' := bAt 27) rfl (by decide +kernel) (by decide +kernel) (by decide +kernel) ?_
  exact h.trans fupd_intro

end Cert.Gather

end
-- ==== Proof.Whole.lean ====
/-
The whole body: the parts one after another.
-/
module

public import proofs.«01_k».proof.Proof.Walk

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : cc0_scratch0.ty.Contents (Elt F)) (K : Names) (c : Dev nD)

/-! ## The whole body -/

theorem part32 (xs : Dev nD → FVec F S32x1024 .bf16) (x : cc0_stg0_0.ty.Contents (Elt F)) (hx : k0_pay1 x = xs c)
    (w : cc0_stg1_0.ty.Contents (Elt F)) {Q : Dev nD → sProp 𝕄}
    (h : iprop(Ctx (gath xs) K ∗ St (gath xs) c (sAt 31) (wAt 31) (bAt 30) ∗ (Out (gath xs) c (k0_pay2 w) 4 ∗ (((c : Thread nD τ).loc cc0_stg1_0 ↦{fullShare} w) ∗ (pts c {c} (shR none) (gath xs) ∗ ((c : Thread nD τ).loc cc0_stg0_0 ↦{fullShare} x) ∗ atPos ER (barCell c) 1 ∅ 0)))) ⊢ Q c) :
    iprop(Ctx (gath xs) K ∗ Pre c (hAt 0) ∗ ((cred (tallyAt (barCell c) () 5) ∗ atPos ER (barCell c) 0 ∅ 0)
        ∗ (Toks c ∗ (∃ f, pts c {c} fullShare f) ∗ ((c : Thread nD τ).loc cc0_stg0_0 ↦{fullShare} x) ∗ (((c : Thread nD τ).loc cc0_stg1_0 ↦{fullShare} w) ∗ Out (gath xs) c (k0_pay2 w) 0))))
      ⊢ run c (k0_part32 (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6) Q := by
  rw [k0_part32_eq_skeleton (F := F)]
  unfold k0_part32_skel
  refine run_bind c ?_
  refine part1 (F := F) c (fun r hr => ?_)
  obtain ⟨d0, v2, v3, v4, v20, v21, v22, v23, v24, v25, v26, v27, v28, c5_i32_18, c6_i32_19⟩ := r
  have hr' : c = d0 := hr.symm
  subst hr'
  refine run_bind c ?_
  refine part2 (gath xs) K c _ _ _ _ _ _ _ _ _ _ _ _ _ (fun r hr => ?_)
  obtain ⟨v36, v37, v49⟩ := r
  have hr' : SemArray.scalar (sig.barrier 0 rfl) = v37 := hr.symm
  subst hr'
  refine run_bind c ?_
  refine part3 K c xs x hx _ _ _ _ (fun r => ?_)
  obtain ⟨v70, v84⟩ := r
  refine run_bind c ?_
  refine part4 (gath xs) K c _ _ _ _ (fun r => ?_)
  obtain ⟨v98, v111, v114, v117, v118, c4_i32_97⟩ := r
  refine run_bind c ?_
  refine part5 (gath xs) K c _ _ _ (fun r => ?_)
  obtain ⟨v120, v134, v135, v147, c1_i32_128⟩ := r
  refine run_bind c ?_
  refine part6 (gath xs) K c _ _ _ _ (fun r => ?_)
  obtain ⟨v148, v162, v176, c0_i32_159⟩ := r
  refine run_bind c ?_
  refine part7 (gath xs) K c _ _ _ _ _ (fun r => ?_)
  obtain ⟨v190, c1_i32_190⟩ := r
  refine run_bind c ?_
  refine part8 (gath xs) K c _ _ _ _ _ _ ?_
  refine run_bind c ?_
  refine part9 (gath xs) K c _ _ _ _ _ ?_
  refine run_bind c ?_
  refine part10 (gath xs) K c _ _ _ _ _ ?_
  refine run_bind c ?_
  refine part11 (gath xs) K c _ _ _ _ _ ?_
  refine run_bind c ?_
  refine part12 (gath xs) K c _ _ _ _ (fun r => ?_)
  refine run_bind c ?_
  refine part13 (gath xs) K c _ _ _ _ _ _ _ ?_
  refine run_bind c ?_
  refine part14 (gath xs) K c _ _ _ _ ?_
  refine run_bind c ?_
  refine part15 (gath xs) K c _ _ _ _ _ ?_
  refine run_bind c ?_
  refine part16 (gath xs) K c _ _ _ _ _ ?_
  refine run_bind c ?_
  refine part17 (gath xs) K c _ _ _ _ ?_
  refine run_bind c ?_
  refine part18 (gath xs) K c _ _ _ _ _ _ ?_
  refine run_bind c ?_
  refine part19 (gath xs) K c _ _ _ _ _ _ (fun r => ?_)
  obtain ⟨v542, c32_i32_533⟩ := r
  refine run_bind c ?_
  refine part20 (gath xs) K c _ _ _ _ _ _ (fun r => ?_)
  refine run_bind c ?_
  refine part21 (gath xs) K c _ _ _ _ _ ?_
  refine run_bind c ?_
  refine part22 (gath xs) K c _ _ _ ?_
  refine run_bind c ?_
  refine re_cols.trans ?_
  refine part23 (gath xs) K c w _ _ _ _ _ (fun r hr => ?_)
  obtain ⟨v638, v651, c32_i32_651⟩ := r
  have hr' : k0_pay2 w = v638 := hr.symm
  subst hr'
  refine run_bind c ?_
  refine re_layers.trans ?_
  refine part24 (gath xs) K c _ _ _ _ _ _ ?_
  refine run_bind c ?_
  refine part25 (gath xs) K c _ _ _ _ ?_
  refine run_bind c ?_
  refine part26 (gath xs) K c _ _ _ ?_
  refine run_bind c ?_
  refine part27 (gath xs) K c  ?_
  refine run_bind c ?_
  refine part28 (gath xs) K c  ?_
  refine run_bind c ?_
  refine part29 (gath xs) K c  ?_
  refine run_bind c ?_
  refine part30 (gath xs) K c  ?_
  refine run_bind c ?_
  refine part31 (gath xs) K c  ?_
  simp only [Prog.lift, Prog.bind_op, Prog.bind_ret, Prog.pure_eq_ret, semSignalWord, semWaitWord]
  refine step_departure (gath xs) K c 27 (B' := bAt 28) rfl (by decide +kernel) (by decide +kernel) (by decide +kernel) ?_
  refine step_departure (gath xs) K c 28 (B' := bAt 29) rfl (by decide +kernel) (by decide +kernel) (by decide +kernel) ?_
  refine step_departure (gath xs) K c 29 (B' := bAt 30) rfl (by decide +kernel) (by decide +kernel) (by decide +kernel) ?_
  exact h.trans fupd_intro

theorem body (xs : Dev nD → FVec F S32x1024 .bf16) (x : cc0_stg0_0.ty.Contents (Elt F)) (hx : k0_pay1 x = xs c)
    (w : cc0_stg1_0.ty.Contents (Elt F)) {Q : PUnit → sProp 𝕄}
    (h : iprop(Ctx (gath xs) K ∗ St (gath xs) c (sAt 31) (wAt 31) (bAt 31) ∗ (Out (gath xs) c (k0_pay2 w) 4 ∗ (((c : Thread nD τ).loc cc0_stg1_0 ↦{fullShare} w) ∗ (pts c {c} (shR none) (gath xs) ∗ ((c : Thread nD τ).loc cc0_stg0_0 ↦{fullShare} x) ∗ atPos ER (barCell c) 1 ∅ 0)))) ⊢ |={Set.univ}=> Q ⟨⟩) :
    iprop(Ctx (gath xs) K ∗ Pre c (hAt 0) ∗ ((cred (tallyAt (barCell c) () 5) ∗ atPos ER (barCell c) 0 ∅ 0)
        ∗ (Toks c ∗ (∃ f, pts c {c} fullShare f) ∗ ((c : Thread nD τ).loc cc0_stg0_0 ↦{fullShare} x) ∗ (((c : Thread nD τ).loc cc0_stg1_0 ↦{fullShare} w) ∗ Out (gath xs) c (k0_pay2 w) 0))))
      ⊢ run c (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6) Q := by
  rw [cc0_body_eq_skeleton (F := F)]
  unfold cc0_body_skel
  refine run_bind c ?_
  refine part32 K c xs x hx w ?_
  simp only [Prog.lift, Prog.bind_op, Prog.bind_ret, Prog.pure_eq_ret, semSignalWord, semWaitWord]
  refine step_departure (gath xs) K c 30 (B' := bAt 31) rfl (by decide +kernel) (by decide +kernel) (by decide +kernel) ?_
  exact h

end Cert.Gather

end
-- ==== Proof.Body.lean ====
/-
What a device's kernel starts from and ends with, and the pipeline's obligation for its body.
-/
module

public import proofs.«01_k».proof.Proof.Whole
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: every counter at zero. -/
def s₀ : MemSt nD τ sig (Elt F) := ⟨m, fun _ => 0, ρ⟩

/-! ## Contents -/

/-- The rows and the columns of a device, as staged. -/
def xstg (c : Dev nD) : cc0_stg0_0.ty.Contents (Elt F) := (win0_0.blk t0_0).view.read (Elt F) ((s₀ m ρ).mem ((c : Thread nD τ).loc main_arg0))
def wstg (c : Dev nD) : cc0_stg1_0.ty.Contents (Elt F) := (win0_1.blk t0_0).view.read (Elt F) ((s₀ m ρ).mem ((c : Thread nD τ).loc main_arg1))

/-- Every device's chunk, the gathered array, and what a device computes. -/
def xsAll (c : Dev nD) : FVec F S32x1024 .bf16 := k0_pay1 (xstg m ρ c)
def XX : cc0_scratch0.ty.Contents (Elt F) := gath (xsAll m ρ)
def outAt (c : Dev nD) : cc0_stg2_0.ty.Contents (Elt F) := outC (XX m ρ) (k0_pay2 (wstg m ρ c))

/-! ## What a device starts from -/

/-- The tokens a device pays with and its positions. -/
def Hand (c : Dev nD) : sProp 𝕄 :=
  iprop((bigSep Finset.univ fun s : Fin 5 => dutyTok ER (barCell (hand s c)) 0 s)
    ∗ (bigSep Finset.univ fun j : T => iprop(dutyTok ER (sCell j c) 0 0 ∗ dutyTok ER (rCell j (tgt j c)) 0 0))
    ∗ atPos ER (barCell c) 0 ∅ 0
    ∗ (bigSep Finset.univ fun j : T => atPos ER (sCell j c) 0 ∅ 0)
    ∗ bigSep Finset.univ fun j : T => atPos ER (rCell j c) 0 ∅ 0)
/-- Its credit: five units for its barrier, a chunk's for each landing. -/
def Credit (c : Dev nD) : sProp 𝕄 :=
  iprop(cred (tallyAt (barCell c) () 5) ∗ bigSep Finset.univ fun j : T => cred (tallyAt (rCell j c) () N))
def G' (c : Dev nD) : sProp 𝕄 := iprop(∃ K, records (XX m ρ) K ∗ Hand c)
def start (c : Dev nD) : sProp 𝕄 := iprop(G' m ρ c ∗ Credit c ∗ Lev F)

def Φ₀ (c : Dev nD) : sProp 𝕄 := iprop(start m ρ c ∗ ∃ f, ((c : Thread nD τ).loc cc0_scratch0 ↦{fullShare} f))
def Φ₁ (c : Dev nD) : sProp 𝕄 :=
  iprop(((c : Thread nD τ).loc cc0_scratch0 ↦{fullShare} XX m ρ) ∗ (bigSep Finset.univ fun k : Fin 62 => semVal (gcell c k) 0) ∗ semVal (barCell c) 0)

abbrev O₀ (c : Dev nD) : CellTallies nD τ sig Unit := owe c Finset.univ Finset.univ

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## Entry and exit of the body -/

variable (K : Names)

theorem rows_one (c : Dev nD) (j : T) (f : cc0_scratch0.ty.Contents (Elt F)) :
    pts c {arr j c} fullShare f ⊢ (iprop(∃ f, pts (tgt j (hand (grp j) c)) {chunk j (hand (grp j) c)} fullShare f) : sProp 𝕄) := by
  rw [show tgt j (hand (grp j) c) = c from tgt_org j c]
  iintro H
  iexists f
  iexact H

/-- The rows a device's neighbours will fill, handed over by neighbour. -/
theorem rows_deal (c : Dev nD) :
    iprop((bigSep Finset.univ fun s : Fin 5 => dutyTok ER (barCell (hand s c)) 0 s)
        ∗ ∃ f, ((c : Thread nD τ).loc cc0_scratch0 ↦{fullShare} f))
      ⊢ (iprop((bigSep Finset.univ fun s : Fin 5 => iprop(dutyTok ER (barCell (hand s c)) 0 s ∗ barPay s (hand s c)))
        ∗ ∃ f, pts c {c} fullShare f) : sProp 𝕄) := by
  have hb : ∀ f : cc0_scratch0.ty.Contents (Elt F), (bigSep Finset.univ fun j : T => pts c {arr j c} fullShare f)
      ⊢ (bigSep Finset.univ fun s : Fin 5 => barPay s (hand s c) : sProp 𝕄) := fun f => by
    have e : (bigSep Finset.univ fun j : T => (pts c {arr j c} fullShare f : sProp 𝕄))
        = bigSep Finset.univ fun s : Fin 5 => bigSep (Finset.univ.filter fun j : T => grp j = s) fun j => pts c {arr j c} fullShare f := by
      refine Eq.trans ?_ (BI.bigSep_biUnion_eq Finset.univ (fun s : Fin 5 => Finset.univ.filter fun j : T => grp j = s)
        (fun j : T => (pts c {arr j c} fullShare f : sProp 𝕄)) (fun s _ s' _ hne => Finset.disjoint_left.mpr fun j hj hj' =>
          hne ((Finset.mem_filter.mp hj).2.symm.trans (Finset.mem_filter.mp hj').2)))
      congr 1
      symm
      ext j
      exact ⟨fun _ => Finset.mem_univ _, fun _ => Finset.mem_biUnion.mpr ⟨grp j, Finset.mem_univ _, Finset.mem_filter.mpr ⟨Finset.mem_univ _, rfl⟩⟩⟩
    rw [e]
    refine bigSep_mono fun s _ => ?_
    unfold barPay
    refine bigSep_mono fun j hj => ?_
    have hs : grp j = s := (Finset.mem_filter.mp hj).2
    subst hs
    exact rows_one c j f
  rw [bigSep_sep']
  iintro ⟨Ht, ⟨%f, Hf⟩⟩
  ihave Hf := (Entails.of_eq (pts_scatter c f)) $$ Hf
  icases Hf with ⟨Hn, Hf⟩
  isplitr [Hn]
  · isplitl [Ht]; · iexact Ht
    iapply (hb f) $$ Hf
  iexists f
  iexact Hn

theorem enter (c : Dev nD) (g : cc0_stg2_0.ty.Contents (Elt F)) :
    iprop(records (XX m ρ) K ∗ Hand c ∗ Credit c ∗ Lev F ∗ (∃ f, ((c : Thread nD τ).loc cc0_scratch0 ↦{fullShare} f))
        ∗ (∃ V, owes (c : Thread nD τ) (O₀ c) V) ∗ ((c : Thread nD τ).loc cc0_stg0_0 ↦{fullShare} xstg m ρ c)
        ∗ ((c : Thread nD τ).loc cc0_stg1_0 ↦{fullShare} wstg m ρ c) ∗ ((c : Thread nD τ).loc cc0_stg2_0 ↦{fullShare} g))
      ⊢ (iprop(Ctx (gath (xsAll m ρ)) K ∗ Pre c (hAt 0) ∗ ((cred (tallyAt (barCell c) () 5) ∗ atPos ER (barCell c) 0 ∅ 0)
        ∗ (Toks c ∗ (∃ f, pts c {c} fullShare f) ∗ ((c : Thread nD τ).loc cc0_stg0_0 ↦{fullShare} xstg m ρ c)
          ∗ (((c : Thread nD τ).loc cc0_stg1_0 ↦{fullShare} wstg m ρ c) ∗ Out (gath (xsAll m ρ)) c (k0_pay2 (wstg m ρ c)) 0)))) : sProp 𝕄) := by
  rw [hAt_zero]
  unfold Hand Credit Ctx Pre Toks Out
  rw [show XX m ρ = gath (xsAll m ρ) from rfl,
    bigSep_sep' Finset.univ (fun j : T => (cred (tallyAt (rCell j c) () N) : sProp 𝕄)) (fun j : T => atPos ER (rCell j c) 0 ∅ 0)]
  iintro ⟨HI, ⟨Hts, Htj, HaB, Has, Har⟩, ⟨HcB, Hcr⟩, HL, Hf, HO, Hx, Hw, Hg⟩
  ihave H := (rows_deal c) $$ [Hts Hf]
  · isplitl [Hts] <;> iassumption
  icases H with ⟨Hp, Hn⟩
  isplitl [HI HL]
  · isplitl [HI] <;> iassumption
  isplitl [HO Hp]
  · isplitl [HO] <;> iassumption
  isplitl [HcB HaB]
  · isplitl [HcB] <;> iassumption
  isplitl [Htj Has Hcr Har]
  · isplitl [Htj]; · iexact Htj
    isplitl [Has]; · iexact Has
    isplitl [Hcr] <;> iassumption
  isplitl [Hn]; · iexact Hn
  isplitl [Hx]; · iexact Hx
  isplitl [Hw]; · iexact Hw
  iexists g
  isplitr
  · ipureintro; exact fun i h => absurd h.choose_spec.1 (Nat.not_lt_zero _)
  iexact Hg

/-- Four layers are all. -/
theorem layers_all : ∀ (c : Dev nD) (l : Fin 4), ∃ dz < 4, l = layAt c dz := by decide +kernel

theorem leave (c : Dev nD) :
    iprop(Ctx (gath (xsAll m ρ)) K ∗ St (gath (xsAll m ρ)) c (sAt 31) (wAt 31) (bAt 31) ∗ (Out (gath (xsAll m ρ)) c (k0_pay2 (wstg m ρ c)) 4
        ∗ (((c : Thread nD τ).loc cc0_stg1_0 ↦{fullShare} wstg m ρ c) ∗ (pts c {c} (shR none) (gath (xsAll m ρ))
          ∗ ((c : Thread nD τ).loc cc0_stg0_0 ↦{fullShare} xstg m ρ c) ∗ atPos ER (barCell c) 1 ∅ 0))))
      ⊢ (|={Set.univ}=> iprop(Φ₁ m ρ c ∗ (∃ V, owes (c : Thread nD τ) 0 V) ∗ ((c : Thread nD τ).loc cc0_stg0_0 ↦{fullShare} xstg m ρ c)
        ∗ ((c : Thread nD τ).loc cc0_stg1_0 ↦{fullShare} wstg m ρ c) ∗ ((c : Thread nD τ).loc cc0_stg2_0 ↦{fullShare} outAt m ρ c)) : sProp 𝕄) := by
  rw [sAt_end, wAt_end, bAt_end]
  unfold Out
  iintro ⟨HC, HS, ⟨%f, %hf, Hf⟩, Hw, Hn, Hx, Hb⟩
  have e : f = outAt m ρ c := funext fun i => hf i (layers_all c _)
  subst e
  imod (St_exit (gath (xsAll m ρ)) K c) $$ [HC HS Hn Hb] with ⟨HO, Hg, Hk, Hz⟩
  · isplitl [HC]; · iexact HC
    isplitl [HS]; · iexact HS
    isplitl [Hn] <;> iassumption
  imodintro
  unfold Φ₁
  isplitl [Hg Hk Hz]
  · isplitl [Hg]; · iexact Hg
    isplitl [Hk] <;> iassumption
  isplitl [HO]; · iexact HO
  isplitl [Hx]; · iexact Hx
  isplitl [Hw] <;> iassumption

/-! ## The obligation -/

omit [FloatOps F] in
theorem owns_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () (t0_0 : Fin cfg0.N).castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m ρ c ∗ (dats m ρ 0 c).owesAt () (t0_0 : Fin cfg0.N).succ ∗ stg c cc0_stg0_0 (xstg m ρ c) ∗ stg c cc0_stg1_0 (wstg m ρ c) ∗ stg c cc0_stg2_0 (outAt m ρ c))

theorem post (c : Dev nD) :
    iprop(Φ₁ m ρ c ∗ (∃ V, owes (c : Thread nD τ) 0 V) ∗ ((c : Thread nD τ).loc cc0_stg0_0 ↦{fullShare} xstg m ρ c)
        ∗ ((c : Thread nD τ).loc cc0_stg1_0 ↦{fullShare} wstg m ρ c) ∗ ((c : Thread nD τ).loc cc0_stg2_0 ↦{fullShare} outAt m ρ c))
      ⊢ bodyPost m ρ c := by
  unfold bodyPost Dat.owesAt Pipeline.owesWithin
  rw [show (dats m ρ 0 c).owed (t0_0 : Fin cfg0.N).succ = 0 from rfl]
  iintro ⟨HP, ⟨%V, HO⟩, Hx, Hw, Hg⟩
  isplitl [HP]; · iexact HP
  isplitl [HO]
  · iexists V
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hg

theorem body_run (c : Dev nD) :
    bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6) (fun _ => bodyPost m ρ c) := by
  unfold bodyPre Φ₀ start G' Dat.owesAt Pipeline.owesWithin
  rw [show (dats m ρ 0 c).owed (t0_0 : Fin cfg0.N).castSucc = O₀ c from rfl]
  iintro ⟨⟨⟨⟨%K, HI, Hh⟩, Hc, HL⟩, Hf⟩, ⟨%V, %hV, HO⟩, ⟨%d0, %g0, %hg0, Hx⟩, ⟨%d1, %g1, %hg1, Hw⟩, ⟨%d2, %g2, %hg2, Hg⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  iapply (body K c (xsAll m ρ) (xstg m ρ c) rfl (wstg m ρ c) ((leave m ρ K c).trans (fupd_mono (post m ρ c))))
  iapply (enter m ρ K c g2)
  isplitl [HI]; · iexact HI
  isplitl [Hh]; · iexact Hh
  isplitl [Hc]; · iexact Hc
  isplitl [HL]; · iexact HL
  isplitl [Hf]; · iexact Hf
  isplitl [HO]; · iexists V; iexact HO
  isplitl [Hx]; · iexact Hx
  isplitl [Hw] <;> iassumption

set_option maxRecDepth 40000 in
/-- The pipeline's obligation for the body. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_eq]
  show bodyPre m ρ c ⊢ run c (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) cc0_scratch1 cc0_scratch2 cc0_scratch3 cc0_scratch4 cc0_scratch5 cc0_scratch6) (fun _ => bodyPost m ρ c)
  exact body_run m ρ c

end Cert.Gather

end
-- ==== Proof.Run.lean ====
/-
The launch: the cells, tokens and credit every device is dealt, and the whole run.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch mints -/

theorem csem_inj {k k' : Option (Fin 62)} (h : csem k = csem k') : k = k' := by
  cases k <;> cases k'
  · rfl
  · exact absurd h (by intro h; cases h)
  · exact absurd h (by intro h; cases h)
  · exact congrArg some (ksem_inj (SemLoc.dma.inj h))

theorem kcell_injective : Function.Injective (kcell : Dev nD × Option (Fin 62) → GSem nD τ sig) := by
  rintro ⟨c, k⟩ ⟨c', k'⟩ h
  have h1 : c = c' := congrArg (fun g : GSem nD τ sig => g.1.1) h
  have h2 : csem k = csem k' := congrArg Prod.snd h
  rw [h1, csem_inj h2]

def gatherCells : Finset (GSem nD τ sig) := Finset.univ.map ⟨kcell, kcell_injective⟩

/-- The duty tokens of a device's own cells: five of its barrier's, one of each copy cell's. -/
abbrev tokOf (x : Dev nD × (Fin 5 ⊕ Fin 62)) : GSem nD τ sig × ℕ × Fin 5 := match x.2 with
  | .inl s => (barCell x.1, 0, s)
  | .inr k => (gcell x.1 k, 0, 0)
theorem tokOf_injective : Function.Injective tokOf := by
  rintro ⟨c, x⟩ ⟨c', x'⟩ h
  have h1 : c = c' := by
    have := congrArg (fun y : GSem nD τ sig × ℕ × Fin 5 => y.1.1.1) h
    cases x <;> cases x' <;> exact this
  have h2 := congrArg (fun y : GSem nD τ sig × ℕ × Fin 5 => y.1.2) h
  have h3 := congrArg (fun y : GSem nD τ sig × ℕ × Fin 5 => y.2.2) h
  subst h1
  cases x <;> cases x'
  · exact congrArg (fun s => (c, Sum.inl s)) h3
  · exact absurd h2 (by intro h; cases h)
  · exact absurd h2 (by intro h; cases h)
  · rw [ksem_inj (SemLoc.dma.inj h2)]
def gatherToks : Finset (GSem nD τ sig × ℕ × Fin 5) := Finset.univ.map ⟨tokOf, tokOf_injective⟩

def u₀ : UU :=
  (initOf (Pipeline.cells cfgs cellOf_inj) (Pipeline.launchToks cfgs cellOf_inj), initOf gatherCells gatherToks)

def toks (c : Dev nD) : sProp 𝕄 :=
  iprop((bigSep Finset.univ fun s : Fin 5 => dutyTok ER (barCell c) 0 s) ∗ bigSep Finset.univ fun k : Fin 62 => dutyTok ER (gcell c k) 0 0)

/-- What the launch deals a device. -/
def G (c : Dev nD) : sProp 𝕄 :=
  iprop((bigSep Finset.univ fun k : Option (Fin 62) => roundState ER (gatherRd (XX m ρ)) (kcell (c, k)) 0)
    ∗ (bigSep Finset.univ fun k : Option (Fin 62) => iprop(atPos ER (kcell (c, k)) 0 ∅ 0 ∗ reached ER (kcell (c, k)) 0)) ∗ toks c)

theorem fund_gather : BI.own (ER (initOf gatherCells gatherToks)) ⊢ (|==> bigSep Finset.univ (G m ρ) : sProp 𝕄) := by
  have hX (Φ : GSem nD τ sig → sProp 𝕄) : bigSep gatherCells Φ = bigSep Finset.univ fun c : Dev nD => bigSep Finset.univ fun k : Option (Fin 62) => Φ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => toks c := by
    unfold gatherToks; rw [bigSep_map, bigSep_univ_prod]
    exact bigSep_congr fun c _ => by unfold toks; rw [bigSep_univ_sum]; rfl
  iintro HX
  imod (Rounds.fund ER (gatherRd (XX m ρ)) gatherCells gatherToks) $$ HX with ⟨Hst, Hr, Hat, Htok⟩
  imodintro
  ihave Hst' := (Entails.of_eq (hX fun g => roundState ER (gatherRd (XX m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

omit [FloatOps F] in
theorem bigSep_opt (Φ : Option (Fin 62) → sProp 𝕄) : bigSep Finset.univ Φ = iprop((bigSep Finset.univ fun k : Fin 62 => Φ (some k)) ∗ Φ none) := by
  rw [bigSep_univ_equiv (Equiv.optionEquivSumPUnit.{0, 0} (Fin 62)).symm Φ, bigSep_univ_sum]
  congr 1
  rw [Finset.univ_unique]
  exact bigSep_singleton

omit [FloatOps F] in
/-- The semaphores of the 31 copies, departures and landings. -/
theorem bigSep_role (Φ : Fin 62 → sProp 𝕄) :
    bigSep Finset.univ Φ = iprop((bigSep Finset.univ fun j : T => Φ (sIx j)) ∗ bigSep Finset.univ fun j : T => Φ (rIx j)) := by
  rw [bigSep_univ_equiv roleEquiv Φ, bigSep_univ_sum]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Option (Fin 62) => semVal (kcell (c, k)) 0 : sProp 𝕄) := by
  rw [unscopedSems0_eq, bigSep_opt]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option (Fin 62) => iprop(∃ κ : ℕ, cellInv ER (gatherRd (XX m ρ)) κ (kcell (c, k))))
          ∗ (bigSep Finset.univ fun k : Option (Fin 62) => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Option (Fin 62) => semVal (kcell (c, k)) 0) ∗ bigSep Finset.univ fun k : Option (Fin 62) => roundState ER (gatherRd (XX m ρ)) (kcell (c, k)) 0)
      ⊢ (|={Set.univ}=> bigSep Finset.univ fun k : Option (Fin 62) => iprop(∃ κ : ℕ, cellInv ER (gatherRd (XX m ρ)) κ (kcell (c, k))) : sProp 𝕄) from by
        rw [← bigSep_sep']
        exact (bigSep_mono fun k _ => (Rounds.body_intro ER (gatherRd (XX m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties a device pays. -/
def payToks (c : Dev nD) : sProp 𝕄 :=
  iprop((bigSep Finset.univ fun s : Fin 5 => dutyTok ER (barCell (hand s c)) 0 s)
    ∗ (bigSep Finset.univ fun j : T => dutyTok ER (sCell j c) 0 0) ∗ bigSep Finset.univ fun j : T => dutyTok ER (rCell j (tgt j c)) 0 0)

def tgtEquiv (j : T) : Dev nD ≃ Dev nD := ⟨tgt j, org j, org_tgt j, tgt_org j⟩

/-- A barrier token goes to the device that signals, a landing token to the device that sends. -/
theorem toks_around : (bigSep Finset.univ fun c : Dev nD => (toks c : sProp 𝕄)) = bigSep Finset.univ fun c : Dev nD => payToks c := by
  have e1 : (bigSep Finset.univ fun c : Dev nD => bigSep Finset.univ fun s : Fin 5 => (dutyTok ER (barCell c) 0 s : sProp 𝕄))
      = bigSep Finset.univ fun c : Dev nD => bigSep Finset.univ fun s : Fin 5 => dutyTok ER (barCell (hand s c)) 0 s := by
    rw [Pipeline.bigSep_univ_comm, Pipeline.bigSep_univ_comm (fun (c : Dev nD) (s : Fin 5) => (dutyTok ER (barCell (hand s c)) 0 s : sProp 𝕄))]
    exact bigSep_congr fun s _ => bigSep_univ_equiv (handEquiv s) (fun c : Dev nD => (dutyTok ER (barCell c) 0 s : sProp 𝕄))
  have e2 : (bigSep Finset.univ fun c : Dev nD => bigSep Finset.univ fun j : T => (dutyTok ER (rCell j c) 0 0 : sProp 𝕄))
      = bigSep Finset.univ fun c : Dev nD => bigSep Finset.univ fun j : T => dutyTok ER (rCell j (tgt j c)) 0 0 := by
    rw [Pipeline.bigSep_univ_comm, Pipeline.bigSep_univ_comm (fun (c : Dev nD) (j : T) => (dutyTok ER (rCell j (tgt j c)) 0 0 : sProp 𝕄))]
    exact bigSep_congr fun j _ => bigSep_univ_equiv (tgtEquiv j) (fun c : Dev nD => (dutyTok ER (rCell j c) 0 0 : sProp 𝕄))
  have e3 : ∀ c : Dev nD, (toks c : sProp 𝕄) = iprop((bigSep Finset.univ fun s : Fin 5 => dutyTok ER (barCell c) 0 s)
      ∗ (bigSep Finset.univ fun j : T => dutyTok ER (sCell j c) 0 0) ∗ bigSep Finset.univ fun j : T => dutyTok ER (rCell j c) 0 0) := fun c => by
    unfold toks; rw [bigSep_role]
  unfold payToks
  rw [bigSep_congr fun c _ => e3 c, bigSep_sep', bigSep_sep', bigSep_sep', bigSep_sep', e1, e2]

/-- What stays with a device: its positions, and the tokens it pays with. -/
def linear (c : Dev nD) : sProp 𝕄 := iprop((bigSep Finset.univ fun k : Option (Fin 62) => atPos ER (kcell (c, k)) 0 ∅ 0) ∗ payToks c)

theorem ghost_intro (K : Names) (c : Dev nD) : iprop(records (XX m ρ) K ∗ linear c) ⊢ G' m ρ c := by
  unfold linear payToks G' Hand
  rw [bigSep_opt, bigSep_role, bigSep_sep']
  iintro ⟨HR, ⟨⟨Has, Har⟩, HaB⟩, Ht1, Ht2, Ht3⟩
  iexists K
  isplitl [HR]; · iexact HR
  isplitl [Ht1]; · iexact Ht1
  isplitl [Ht2 Ht3]
  · isplitl [Ht2] <;> iassumption
  isplitl [HaB]; · iexact HaB
  isplitl [Has] <;> iassumption

omit [FloatOps F] in
theorem all_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option (Fin 62) => iprop(∃ κ : ℕ, cellInv ER (gatherRd (XX m ρ)) κ (kcell (c, k))))
          ∗ (bigSep Finset.univ fun k : Option (Fin 62) => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Fin 62) => iprop(∃ κ : ℕ, cellInv ER (gatherRd (XX m ρ)) κ (kcell ck))),
    bigSep_congr (s := Finset.univ) (fun (c : Dev nD) _ => bigSep_sep' Finset.univ (fun k : Option (Fin 62) => (atPos ER (kcell (c, k)) 0 ∅ 0 : sProp 𝕄)) (fun k => reached ER (kcell (c, k)) 0)),
    bigSep_sep', ← bigSep_univ_prod (fun ck : Dev nD × Option (Fin 62) => (reached ER (kcell ck) 0 : sProp 𝕄)), toks_around]
  have hl : iprop((bigSep Finset.univ fun c : Dev nD => bigSep Finset.univ fun k : Option (Fin 62) => atPos ER (kcell (c, k)) 0 ∅ 0) ∗ bigSep Finset.univ fun c : Dev nD => payToks c)
      ⊢ (bigSep Finset.univ fun c : Dev nD => linear c : sProp 𝕄) := by
    unfold linear; rw [bigSep_sep']
  iintro ⟨HI, ⟨Hat, HR⟩, Htk⟩
  ihave HK := (BI.bigSep_exists_pi Finset.univ (fun (ck : Dev nD × Option (Fin 62)) (κ : ℕ) => (cellInv ER (gatherRd (XX m ρ)) κ (kcell ck) : sProp 𝕄))) $$ HI
  icases HK with ⟨%K, HI⟩
  iapply (all_with (R := records (XX m ρ) K) fun c _ => ghost_intro m ρ K c)
  isplitl [HI HR]
  · unfold records; isplitl [HI] <;> iassumption
  · iapply hl
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
theorem cred_five (c : Dev nD) : (bigSep Finset.univ fun _ : Fin 5 => (cred (tallyAt (barCell c) () 1) : sProp 𝕄)) = cred (tallyAt (barCell c) () 5) := by
  rw [← Pipeline.cred_finsetSum, Fin.sum_univ_five]
  simp only [tallyAt_add]

theorem creds (c : Dev nD) : (Pipeline.launchCred O₀ c : sProp 𝕄) ⊢ Credit c := by
  unfold Credit
  rw [← cred_five]
  rw [show (O₀ : Dev nD → CellTallies nD τ sig Unit) = fun d => (fun d => ∑ s ∈ (Finset.univ : Finset (Fin 5)), (fun s d => tallyAt (barCell (hand s d)) () 1) s d) d
    + (fun d => ∑ j ∈ (Finset.univ : Finset T), (fun j d => tallyAt (rCell j (tgt j d)) () N) j d) d from rfl,
    Pipeline.launchCred_add, Pipeline.launchCred_sum, Pipeline.launchCred_sum]
  exact BI.sep_mono
    (bigSep_mono fun s _ => Pipeline.launchCred_tallyAt (.reg barS) (hand s) (back s) (hand_back s) (back_hand s) () 1 c)
    (bigSep_mono fun j _ => Pipeline.launchCred_tallyAt (osem (rIx j)) (tgt j) (org j) (tgt_org j) (org_tgt j) () N c)

/-! ## The theorem's side conditions -/

theorem ownSemFacts : Pipeline.OwnSemFacts cfg0.spec osem := by decide +kernel

omit [FloatOps F] in
theorem share_eq [FloatOps F] (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [show (levAts L lv : sProp 𝕄) = Lev F from by unfold Lev; rfl]
  unfold start
  iintro ⟨-, Hlev, Hcr, -, HG⟩
  ihave Hc := (creds (F := F) c) $$ Hcr
  imodintro
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁ Pipeline.ownSems0
  iintro ⟨Hr, HzK, HzB⟩
  isplitl [HzB]; · iexact HzB
  isplitl [HzK]; · iexact HzK
  iexists _; iexact Hr

theorem mayWait_stage (c : Dev nD) (q : DmaSem sig) (hq : slot q = none) (O : CellTallies nD τ sig Unit) (hO : O = O₀ c ∨ O = 0) :
    (levAts L lv : sProp 𝕄) ⊢ MayWait (c : Thread nD τ) (.dma q) () O := by
  have h0 : lv ((c : Thread nD τ), .dma q) () = 0 := by dsimp only [lv]; rw [hq]
  rcases hO with rfl | rfl
  · exact mayWait c (.dma q) (fun s _ => by rw [h0]; exact Nat.one_pos) (fun j _ => by rw [h0]; exact lt_of_lt_of_le Nat.two_pos (lvl_pos j))
  · rw [MayWait_zero]; exact fun _ _ => trivial

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- Over any float values, from any memory with zero counters, every weakly fair execution of the 32 devices ends, with
    every counter at zero and every window's array at its computed contents. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_gather m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _
theorem finalA_out (c : Dev nD) : (win0_2.blk (0 : Fin 1)).view.read (Elt F) (finalA m ρ c (2 : Fin 3)) = outAt m ρ c := by
  unfold finalA
  rw [show cfg0.N = (0 : Fin 1).val + 1 from rfl, (dats m ρ 0 c).arrAt_succ (2 : Fin 3) (0 : Fin 1)]
  rw [show (cfg0.win (2 : Fin 3)).flush (0 : Fin 1) = true from by decide, if_pos rfl]
  exact View.read_write_univ _ _

end Cert.Gather

end
-- ==== Proof.Value.lean ====
/- What the run leaves in the arrays; at the ideal values the result is a device's block of columns of the reference's. -/
module

public import proofs.«01_k».proof.Proof.Run
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.ValueIdx

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section
variable {F : FTy → Type} [FloatOps F] (m : (ℓ : Loc nD τ sig) → Buf (Elt F) ℓ) (ρ : Dev nD → PrngReg)

theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem wstg_eq (c : Dev nD) : wstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem result_eq (c : Dev nD) : finalA m ρ c (2 : Fin 3) = outAt m ρ c := by
  have hz : (fun a => (win0_2.index (0 : Fin 1)) a * main_v1.ty.shape.size a) = fun _ => 0 := funext fun a => by fin_cases a <;> decide
  have hr := fun f => Memref.read_access_unit_zero (Elt F) main_v1 hz (fun a => by fin_cases a <;> decide) f
  exact (hr _).symm.trans (finalA_out m ρ c)

/-- The run, read at the named arrays. -/
theorem run_named : θ_run defs (onTc (τ := τ) (main (F := F))) ⟨m, fun _ => 0, ρ⟩ fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run _ _ _).mono (fun _ h => ⟨fun c => ⟨(h.1 c (2 : Fin 3)).trans (result_eq m ρ c), (h.1 c (0 : Fin 3)).trans (finalA_x m ρ c),
    (h.1 c (1 : Fin 3)).trans (finalA_w m ρ c)⟩, h.2⟩) (run_main m ρ)
end

/-! ## At the ideal values -/

abbrev S1024 : Shape := ⟨2, ![1024, 1024]⟩

/-- The reference's result of whole arrays. -/
abbrev refOut (x w : FVec Ideal S1024 .bf16) : FVec Ideal S1024 .f32 :=
  maximumf (extf .f32 (truncf .bf16 (Host.dotGeneral Cert.ReferenceIdeal.dot_S1024x1024_S1024x1024_S1024x1024_1_0_0_1_n_n none x w) Cert.ReferenceIdeal.Facts₀.bitsLt_bf16_f32) Cert.ReferenceIdeal.Facts₀.bitsLt_bf16_f32)
    (broadcastInDim Cert.ReferenceIdeal.S1024x1024 ![] Cert.ReferenceIdeal.Facts₀.bcast_S_S1024x1024 (constant Cert.ReferenceIdeal.S_ .f32 0x00000000#32))

theorem refOut_apply (x w : FVec Ideal S1024 .bf16) (a b : Fin 1024) :
    refOut x w (ix2 a b) = max (∑ k : Fin 1024, x (ix2 a k) * w (ix2 k b)) 0 := by
  show max (Host.dotGeneral (DotDims.plain 1024 1024 1024) none x w (ix2 a b)) (Ideal.ofBits .f32 0x00000000#32) = _
  rw [StackMember.dotGeneral_plain_apply, Ideal.ofBits_zero_f32]

theorem layer_apply (w : FVec Ideal S1024x32 .bf16) (y : FVec Ideal S256x1024 .bf16) (a : Fin 256) (b : Fin 32) :
    k0_pay3 w y (ix2 a b) = max (∑ k : Fin 1024, y (ix2 a k) * w (ix2 k b)) 0 := by
  show max (FloatOps.matmul (DotDims.plain 256 1024 32) none y w (constant S256x32 .f32 0x00000000#32) (ix2 a b)) (Ideal.ofBits .f32 0x00000000#32) = _
  rw [Ideal.matmul_plain_apply, constant_apply, Ideal.ofBits_zero_f32, zero_add]

/-- A row of the gathered array is that row of the whole. -/
theorem gath_rows (x : FVec Ideal S1024 .bf16) (xs : Dev nD → FVec Ideal S32x1024 .bf16)
    (hx : ∀ c, xs c = Layout.block ⟨2, ![32, 1024]⟩ ⟨2, ![1024, 1024]⟩ 0 32 c x) : gath xs = x := by
  funext i
  unfold gath
  rw [hx]
  rw [Layout.block_apply]
  congr 1
  funext a
  refine Fin.ext ?_
  match a with
  | ⟨0, _⟩ => show (i 0).val / 32 * 32 + (i 0).val % 32 = (i 0).val; omega
  | ⟨1, _⟩ => rfl

/-- What a device computes is its block of columns of the reference's result. -/
theorem outAt_block (m : (ℓ : Loc nD τ sig) → Buf (Elt Ideal) ℓ) (ρ : Dev nD → PrngReg) (x w : FVec Ideal S1024 .bf16)
    (h : ∀ c : Dev nD, m ((c.tc : Thread nD τ).loc main_arg0) = Layout.block ⟨2, ![32, 1024]⟩ ⟨2, ![1024, 1024]⟩ 0 32 c x
      ∧ m ((c.tc : Thread nD τ).loc main_arg1) = Layout.block ⟨2, ![1024, 32]⟩ ⟨2, ![1024, 1024]⟩ 1 32 c w) (c : Dev nD) :
    outAt m ρ c = Layout.block ⟨2, ![1024, 32]⟩ ⟨2, ![1024, 1024]⟩ 1 32 c (refOut x w) := by
  have hX : XX m ρ = x := gath_rows x _ fun d => by
    unfold xsAll k0_pay1
    dsimp only
    rw [shapeCast_self, shapeCast_self, xstg_eq]
    exact (h d).1
  have hW : k0_pay2 (wstg m ρ c) = Layout.block ⟨2, ![1024, 32]⟩ ⟨2, ![1024, 1024]⟩ 1 32 c w := by
    unfold k0_pay2
    rw [shapeCast_self, wstg_eq]
    exact (h c).2
  funext i
  unfold outAt outC
  rw [hX, hW, Layout.block_apply]
  obtain ⟨a, b, rfl⟩ : ∃ (a : Fin 1024) (b : Fin 32), i = ix2 a b := ⟨i 0, i 1, by funext a; match a with | ⟨0, _⟩ => rfl | ⟨1, _⟩ => rfl⟩
  have hc : c.val < 32 := c.isLt
  have hi : (by decide : Layout.Tiles ⟨2, ![1024, 32]⟩ ⟨2, ![1024, 1024]⟩ 1 32).idx c (ix2 a b) = ix2 a (⟨32 * c.val + b.val, by omega⟩ : Fin 1024) := by
    funext d
    refine Fin.ext ?_
    match d with
    | ⟨0, _⟩ => rfl
    | ⟨1, _⟩ => show c.val * 32 + b.val = 32 * c.val + b.val; omega
  rw [hi, refOut_apply]
  refine (layer_apply _ _ _ _).trans ?_
  congr 1
  refine Finset.sum_congr rfl fun k _ => ?_
  congr 1
  · unfold layer
    congr 1
    funext d
    refine Fin.ext ?_
    match d with
    | ⟨0, _⟩ => show 256 * (a.val / 256) + a.val % 256 = a.val; omega
    | ⟨1, _⟩ => rfl
  · rw [Layout.block_apply]
    congr 1
    funext d
    refine Fin.ext ?_
    match d with
    | ⟨0, _⟩ => rfl
    | ⟨1, _⟩ => show c.val * 32 + b.val = 32 * c.val + b.val; omega

end Cert.Gather

end
-- ==== Proof.lean ====
/- The claims, assembled: one run over any float values gives both frames of the kernel and, at the ideal values, its
   result; the reference's own run gives its frame and the whole result that the devices' blocks are cut from. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and its idealization are one text. -/
theorem same_text : (Cert.KernelIdeal.main (F := Bits)) = Cert.Kernel.main (F := Bits) := rfl
theorem same_bodies : (Cert.KernelIdeal.defs₀ (F := Bits)) = Cert.Kernel.defs₀ (F := Bits) := by
  unfold Cert.KernelIdeal.defs₀ Cert.Kernel.defs₀
  refine congrArg Defs.onTc (funext fun ℓ => funext fun a => ?_)
  match ℓ, a with
  | ⟨0, _⟩, _ => rfl
theorem same_defs : (Cert.KernelIdeal.defs (F := Bits)) = Cert.Kernel.defs (F := Bits) :=
  congrArg (Pipeline.defs Cert.Kernel.pcfgs) same_bodies

theorem frame_kernel : Cert.quiescent_Kernel := fun m ρ _ => by
  have h := (θ_run Cert.KernelIdeal.defs _ _).mono (fun _ h => (⟨fun c => (h.1 c).2, h.2⟩ : (∀ c, _ ∧ _) ∧ _)) (Cert.Gather.run_named (F := Bits) m ρ)
  rw [same_defs, same_text] at h
  exact h

theorem frame_ideal : Cert.quiescent_KernelIdeal := fun m ρ _ =>
  (θ_run Cert.KernelIdeal.defs _ _).mono (fun _ h => ⟨fun c => (h.1 c).2, h.2⟩) (Cert.Gather.run_named (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its block of columns of the reference's. -/
theorem value : Cert.algebraic_KernelIdeal_ReferenceIdeal := fun m ρ m' ρ' _ hm =>
  ⟨Cert.Gather.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (Cert.Gather.outAt_block m ρ _ _ hm c), (h.1 c).2⟩)
      (Cert.Gather.run_named (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
